-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x2048 : Shape := ⟨3, ![2, 4096, 2048]⟩
abbrev S2048x64 : Shape := ⟨2, ![2048, 64]⟩
abbrev S64 : Shape := ⟨1, ![64]⟩
abbrev S8192x2048 : Shape := ⟨2, ![8192, 2048]⟩
abbrev S64x2048 : Shape := ⟨2, ![64, 2048]⟩
abbrev S1x64 : Shape := ⟨2, ![1, 64]⟩
abbrev S_ : Shape := ⟨0, ![]⟩
abbrev S64x1 : Shape := ⟨2, ![64, 1]⟩
abbrev S8192x64 : Shape := ⟨2, ![8192, 64]⟩
abbrev S1024x2048 : Shape := ⟨2, ![1024, 2048]⟩
abbrev S1024x64 : Shape := ⟨2, ![1024, 64]⟩
abbrev S1024x128 : Shape := ⟨2, ![1024, 128]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S64x1024 : Shape := ⟨2, ![64, 1024]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048x64, .f32⟩
  | .hbm, ⟨2, _⟩ => ⟨S64, .f32⟩
  | .hbm, ⟨3, _⟩ => ⟨S8192x2048, .f32⟩
  | .hbm, ⟨4, _⟩ => ⟨S64x2048, .f32⟩
  | .hbm, ⟨5, _⟩ => ⟨S1x64, .f32⟩
  | .hbm, ⟨6, _⟩ => ⟨S64x2048, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S64x1, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x4096x2048 : Shape := ⟨3, ![2, 4096, 2048]⟩
abbrev S2048x64 : Shape := ⟨2, ![2048, 64]⟩
abbrev S64 : Shape := ⟨1, ![64]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x2 : Shape := ⟨2, ![8192, 2]⟩
abbrev S8192x2x1 : Shape := ⟨3, ![8192, 2, 1]⟩
abbrev S8192x2x2 : Shape := ⟨3, ![8192, 2, 2]⟩

abbrev nBuf : Space → Nat
  | .hbm => 104
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x64, .f32⟩
  | .hbm, ⟨2, _⟩ => ⟨S64, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S2048x64, .f32⟩
  | .hbm, ⟨15, _⟩ => ⟨S_, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S8192x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S_, .f32⟩
  | .hbm, ⟨37, _⟩ => ⟨S8192x64, .f32⟩
  | .hbm, ⟨38, _⟩ => ⟨S8192x64, .f32⟩
  | .hbm, ⟨39, _⟩ => ⟨S_, .f32⟩
  | .hbm, ⟨40, _⟩ => ⟨S8192x64, .f32⟩
  | .hbm, ⟨41, _⟩ => ⟨S8192x64, .i1⟩
  | .hbm, ⟨42, _⟩ => ⟨S8192x64, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .i1⟩
  | .hbm, ⟨48, _⟩ => ⟨S8192x2, .f32⟩
  | .hbm, ⟨49, _⟩ => ⟨S8192x2, .i32⟩
  | .hbm, ⟨50, _⟩ => ⟨S8192, .i32⟩
  | .hbm, ⟨51, _⟩ => ⟨S8192x1, .i32⟩
  | .hbm, ⟨52, _⟩ => ⟨S_, .f32⟩
  | .hbm, ⟨53, _⟩ => ⟨S8192x64, .f32⟩
  | .hbm, ⟨54, _⟩ => ⟨S_, .i32⟩
  | .hbm, ⟨55, _⟩ => ⟨S8192x1, .i32⟩
  | .hbm, ⟨56, _⟩ => ⟨S8192x1, .i1⟩
  | .hbm, ⟨57, _⟩ => ⟨S_, .i32⟩
  | .hbm, ⟨58, _⟩ => ⟨S8192x1, .i32⟩
  | .hbm, ⟨59, _⟩ => ⟨S8192x1, .i32⟩
  | .hbm, ⟨60, _⟩ => ⟨S8192x1, .i32⟩
  | .hbm, ⟨61, _⟩ => ⟨S_, .i32⟩
  | .hbm, ⟨62, _⟩ => ⟨S8192x2, .i32⟩
  | .hbm, ⟨63, _⟩ => ⟨S8192x2, .i1⟩
  | .hbm, ⟨64, _⟩ => ⟨S_, .i32⟩
  | .hbm, ⟨65, _⟩ => ⟨S8192x2, .i32⟩
  | .hbm, ⟨66, _⟩ => ⟨S8192x2, .i32⟩
  | .hbm, ⟨67, _⟩ => ⟨S8192x2, .i32⟩
  | .hbm, ⟨68, _⟩ => ⟨S8192x2, .i32⟩
  | .hbm, ⟨69, _⟩ => ⟨S8192x2x1, .i32⟩
  | .hbm, ⟨70, _⟩ => ⟨S8192x2x1, .i32⟩
  | .hbm, ⟨71, _⟩ => ⟨S8192x2x2, .i32⟩
  | .hbm, ⟨72, _⟩ => ⟨S_, .f32⟩
  | .hbm, ⟨73, _⟩ => ⟨S8192x2, .f32⟩
  | .hbm, ⟨74, _⟩ => ⟨S8192x64, .f32⟩
  | .hbm, ⟨75, _⟩ => ⟨S8192x1, .i1⟩
  | .hbm, ⟨76, _⟩ => ⟨S_, .f32⟩
  | .hbm, ⟨77, _⟩ => ⟨S8192x64, .f32⟩
  | .hbm, ⟨78, _⟩ => ⟨S8192x64, .i1⟩
  | .hbm, ⟨79, _⟩ => ⟨S8192x64, .i1⟩
  | .hbm, ⟨80, _⟩ => ⟨S8192x64, .i1⟩
  | .hbm, ⟨81, _⟩ => ⟨S_, .f32⟩
  | .hbm, ⟨82, _⟩ => ⟨S8192x64, .f32⟩
  | .hbm, ⟨83, _⟩ => ⟨S8192x64, .f32⟩
  | .hbm, ⟨84, _⟩ => ⟨S_, .f32⟩
  | .hbm, ⟨85, _⟩ => ⟨S8192x64, .f32⟩
  | .hbm, ⟨86, _⟩ => ⟨S8192x64, .i1⟩
  | .hbm, ⟨87, _⟩ => ⟨S_, .f32⟩
  | .hbm, ⟨88, _⟩ => ⟨S8192x64, .f32⟩
  | .hbm, ⟨89, _⟩ => ⟨S8192x64, .f32⟩
  | .hbm, ⟨90, _⟩ => ⟨S_, .f32⟩
  | .hbm, ⟨91, _⟩ => ⟨S8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192x1, .f32⟩
  | .hbm, ⟨96, _⟩ => ⟨S8192x64, .f32⟩
  | .hbm, ⟨97, _⟩ => ⟨S8192x64, .f32⟩
  | .hbm, ⟨98, _⟩ => ⟨S8192x64, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x64, .f32⟩
  | .hbm, ⟨103, _⟩ => ⟨S8192x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call2_cst : Ref sig .tc := ⟨.hbm, 36, rfl⟩
abbrev main_call2_v0 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_values : Ref sig .tc := ⟨.hbm, 48, rfl⟩
abbrev main_indices : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_call3_v0 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_call4_v0 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_cst_16 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== Proof.Logit.lean ====
/-
  The logit of one token for one expert, as mathematics over the extended reals: the cosine similarity of the token's
  row with the expert's column (each divided by the larger of its Euclidean norm and a small positive constant), less
  the sigmoid of the expert's threshold. Whatever the entries, infinite ones included, it is a real number.
-/
module

public import Idealize.ShloMosaic.PureOps.Ideal.Laws

@[expose] public section

noncomputable section

namespace Cert.Gating

open Idealize.ShloMosaic

/-- The small constant the two norms are kept above: the f32 word nearest to 10⁻¹². -/
def eps : EReal := Ideal.ofBits .f32 0x2B8CBCCC#32

/-- `eps` is a positive real number. -/
theorem eps_pos : ∃ r : ℝ, 0 < r ∧ eps = (r : EReal) := by
  refine ⟨_, ?_, by unfold eps; simp [Ideal.ofBits, Ideal.ieee, -EReal.coe_mul]; rfl⟩
  positivity

/-- The f32 word `1.0` is the number one. -/
theorem one_word : Ideal.ofBits .f32 0x3F800000#32 = 1 := by
  simp [Ideal.ofBits, Ideal.ieee, -EReal.coe_mul]
  norm_num

/-- The f32 word of minus infinity is the least extended real. -/
theorem bot_word : Ideal.ofBits .f32 0xFF800000#32 = ⊥ := by
  simp [Ideal.ofBits, Ideal.ieee, -EReal.coe_mul]

/-- The sum of the squares of a vector's entries. -/
def sumSq {n : ℕ} (v : Fin n → EReal) : EReal := ∑ k, v k * v k

/-- The vector divided by the larger of its norm and `eps`. -/
def normalised {n : ℕ} (v : Fin n → EReal) (k : Fin n) : EReal :=
  Ideal.div (v k) (max (Ideal.sqrt (sumSq v)) eps)

/-- The sigmoid. -/
def sigmoid (g : EReal) : EReal := Ideal.div 1 (1 + Ideal.exp (-g))

/-- The logit: the inner product of the two normalised vectors less the sigmoid of the threshold. -/
def logit {n : ℕ} (x w : Fin n → EReal) (g : EReal) : EReal :=
  (∑ k, normalised x k * normalised w k) - sigmoid g

/-- A square is at least zero. -/
theorem sq_nonneg' (a : EReal) : 0 ≤ a * a := by
  induction a using EReal.rec with
  | bot => simp
  | top => simp
  | coe r => exact_mod_cast mul_self_nonneg r

/-- A vector with an infinite entry has an infinite sum of squares. -/
theorem sumSq_top {n : ℕ} (v : Fin n → EReal) (k : Fin n) (h : v k * v k = ⊤) : sumSq v = ⊤ := by
  refine top_le_iff.mp ?_
  rw [← h]
  exact Finset.single_le_sum (f := fun k => v k * v k) (fun i _ => sq_nonneg' (v i)) (Finset.mem_univ k)

/-- A finite sum of real numbers is a real number. -/
theorem real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- Dividing a real number by a positive one gives a real number. -/
theorem real_div (a b : ℝ) (hb : 0 < b) : ∃ r : ℝ, Ideal.div (a : EReal) (b : EReal) = r := by
  refine ⟨a * b⁻¹, ?_⟩
  have h0 : (b : EReal) ≠ 0 := by exact_mod_cast hb.ne'
  unfold Ideal.div
  rw [if_neg h0, EReal.coe_mul, EReal.coe_inv]

/-- Dividing anything by plus infinity gives zero. -/
theorem div_top (a : EReal) : Ideal.div a ⊤ = 0 := by
  unfold Ideal.div
  rw [if_neg (by simp), EReal.inv_top, mul_zero]

/-- Every entry of a normalised vector is a real number. -/
theorem normalised_real {n : ℕ} (v : Fin n → EReal) (k : Fin n) : ∃ r : ℝ, normalised v k = r := by
  obtain ⟨e, he, hee⟩ := eps_pos
  by_cases hv : ∃ i, v i * v i = ⊤
  · obtain ⟨i, hi⟩ := hv
    refine ⟨0, ?_⟩
    unfold normalised
    rw [sumSq_top v i hi]
    have : Ideal.sqrt ⊤ = ⊤ := rfl
    rw [this, max_eq_left le_top, div_top, EReal.coe_zero]
  · have hr : ∀ i, ∃ r : ℝ, v i = r := by
      intro i
      have := fun h => hv ⟨i, h⟩
      generalize v i = a at this ⊢
      induction a using EReal.rec with
      | bot => simp at this
      | top => simp at this
      | coe r => exact ⟨r, rfl⟩
    choose f hf using hr
    obtain ⟨s, hs⟩ := real_sum Finset.univ (fun i => v i * v i) fun i _ => ⟨f i * f i, by rw [hf i, EReal.coe_mul]⟩
    have hs' : sumSq v = (s : EReal) := hs
    have hn : 0 ≤ s := by
      have : (0 : EReal) ≤ sumSq v := Finset.sum_nonneg fun i _ => sq_nonneg' (v i)
      rw [hs'] at this
      exact_mod_cast this
    have hq : Ideal.sqrt (s : EReal) = ((Real.sqrt s : ℝ) : EReal) := if_neg (not_lt.mpr hn)
    unfold normalised
    rw [hs', hq, hee, hf k, ← EReal.coe_strictMono.monotone.map_max]
    exact real_div _ _ (lt_max_of_lt_right he)

/-- The sigmoid of anything is a real number. -/
theorem sigmoid_real (g : EReal) : ∃ r : ℝ, sigmoid g = r := by
  unfold sigmoid
  generalize -g = a
  induction a using EReal.rec with
  | bot =>
    have : Ideal.exp ⊥ = 0 := rfl
    rw [this, add_zero]
    exact_mod_cast real_div 1 1 one_pos
  | top =>
    have : Ideal.exp ⊤ = ⊤ := rfl
    rw [this, EReal.add_top_of_ne_bot (x := 1) (EReal.coe_ne_bot 1), div_top]
    exact ⟨0, by simp⟩
  | coe r =>
    have : Ideal.exp (r : EReal) = ((Real.exp r : ℝ) : EReal) := rfl
    rw [this]
    have h1 : (0 : ℝ) < 1 + Real.exp r := by positivity
    exact_mod_cast real_div 1 _ h1

/-- The logit is a real number, whatever the vectors and the threshold. -/
theorem logit_real {n : ℕ} (x w : Fin n → EReal) (g : EReal) : ∃ r : ℝ, logit x w g = r := by
  obtain ⟨s, hs⟩ := real_sum Finset.univ (fun k => normalised x k * normalised w k) fun k _ => by
    obtain ⟨a, ha⟩ := normalised_real x k
    obtain ⟨b, hb⟩ := normalised_real w k
    exact ⟨a * b, by rw [ha, hb, EReal.coe_mul]⟩
  obtain ⟨q, hq⟩ := sigmoid_real g
  exact ⟨s - q, by unfold logit; rw [hs, hq, EReal.coe_sub]⟩

end Cert.Gating

end
-- ==== Proof.Top2.lean ====
/-
  The two greatest of 64 values, ties to the smaller position: stated as a relation, shown to have at most one
  solution, and found in two ways: as the first two positions of a stable descending sort, and as two rounds of
  "the smallest position holding the maximum", the first round's position blanked out before the second.
-/
module

public import Idealize.ShloMosaic.PureOps.Ideal.Laws
public import Idealize.ShloMosaic.Lib.SortFacts

@[expose] public section

noncomputable section

namespace Cert.Gating

open Idealize.ShloMosaic

variable {n : ℕ}

/-- Position `a` comes before position `b`: its value is greater, or equal at a smaller position. -/
def Before (L : Fin n → EReal) (a b : Fin n) : Prop := L b < L a ∨ (L b = L a ∧ a < b)

/-- No two positions come each before the other. -/
theorem Before.asymm {L : Fin n → EReal} {a b : Fin n} (h : Before L a b) : ¬Before L b a := by
  rintro (h' | ⟨h', h''⟩) <;> rcases h with h | ⟨h, h2⟩
  · exact lt_asymm h h'
  · exact h'.ne' h
  · exact h.ne' h'
  · exact lt_asymm h2 h''

/-- `i` and `j` are the two leading positions: `i` comes before all others, `j` before all others but `i`. -/
structure TopTwo (L : Fin n → EReal) (i j : Fin n) : Prop where
  first : ∀ a, a ≠ i → Before L i a
  ne : j ≠ i
  second : ∀ a, a ≠ i → a ≠ j → Before L j a

/-- The two leading positions are determined by the values. -/
theorem TopTwo.unique {L : Fin n → EReal} {i j i' j' : Fin n} (h : TopTwo L i j) (h' : TopTwo L i' j') : i = i' ∧ j = j' := by
  have hi : i = i' := by
    by_contra hne
    exact (h.first i' (Ne.symm hne)).asymm (h'.first i hne)
  subst hi
  refine ⟨rfl, ?_⟩
  by_contra hne
  exact (h.second j' h'.ne (Ne.symm hne)).asymm (h'.second j h.ne hne)

/-! ## By sorting -/

/-- Inserting a position smaller than those of a list in leading order keeps the order. -/
theorem pairwise_insert (L : Fin n → EReal) (a : Fin n) (l : List (Fin n)) (ha : ∀ b ∈ l, a < b) (hl : l.Pairwise (Before L)) :
    (insertBefore (fun k k' => decide (L k' < L k)) a l).Pairwise (Before L) := by
  induction l with
  | nil => exact List.pairwise_singleton _ _
  | cons b l ih =>
    rw [List.pairwise_cons] at hl
    unfold insertBefore
    by_cases hb : L a < L b
    · rw [if_pos (by simpa using hb), List.pairwise_cons]
      refine ⟨fun c hc => ?_, ih (fun c hc => ha c (List.mem_cons_of_mem b hc)) hl.2⟩
      rcases List.mem_cons.mp ((perm_insertBefore _ a l).mem_iff.mp hc) with rfl | hc
      · exact Or.inl hb
      · exact hl.1 c hc
    · rw [if_neg (by simpa using hb), List.pairwise_cons]
      refine ⟨fun c hc => ?_, List.pairwise_cons.mpr hl⟩
      have hle : L c ≤ L a := by
        rcases List.mem_cons.mp hc with rfl | hc
        · exact not_lt.mp hb
        · rcases hl.1 c hc with h | ⟨h, _⟩
          · exact h.le.trans (not_lt.mp hb)
          · exact h.le.trans (not_lt.mp hb)
      rcases hle.lt_or_eq with h | h
      · exact Or.inl h
      · exact Or.inr ⟨h, ha c hc⟩

/-- A stable descending sort of an increasing list of positions puts them in leading order. -/
theorem pairwise_sort (L : Fin n → EReal) (l : List (Fin n)) (hl : l.Pairwise (· < ·)) :
    (stableSort (fun k k' => decide (L k' < L k)) l).Pairwise (Before L) := by
  induction l with
  | nil => exact List.Pairwise.nil
  | cons a l ih =>
    rw [List.pairwise_cons] at hl
    unfold stableSort
    exact pairwise_insert L a _ (fun b hb => hl.1 b ((perm_stableSort _ l).mem_iff.mp hb)) (ih hl.2)

/-- A position sorted earlier comes before one sorted later. -/
theorem sorted_before (L : Fin n → EReal) (p q : Fin n) (h : p < q) :
    Before L (sortedFrom (fun k k' => decide (L k' < L k)) p) (sortedFrom (fun k k' => decide (L k' < L k)) q) :=
  List.pairwise_iff_get.mp (pairwise_sort L (List.finRange n) (List.pairwise_lt_finRange n)) _ _ h

/-- The first two positions of the stable descending sort are the two leading ones. -/
theorem topTwo_sorted (L : Fin n → EReal) (h : 1 < n) :
    TopTwo L (sortedFrom (fun k k' => decide (L k' < L k)) ⟨0, by omega⟩) (sortedFrom (fun k k' => decide (L k' < L k)) ⟨1, h⟩) where
  first a ha := by
    obtain ⟨q, rfl⟩ := sortedFrom_surjective (fun k k' => decide (L k' < L k)) a
    refine sorted_before L _ _ (Nat.pos_of_ne_zero fun h0 => ha ?_)
    congr 1
    exact Fin.ext h0
  ne h' := absurd (sortedFrom_injective _ h') (by simp)
  second a ha ha' := by
    obtain ⟨q, rfl⟩ := sortedFrom_surjective (fun k k' => decide (L k' < L k)) a
    refine sorted_before L _ _ ?_
    have h0 : q.val ≠ 0 := fun h0 => ha (by congr 1; exact Fin.ext h0)
    have h1 : q.val ≠ 1 := fun h1 => ha' (by congr 1; exact Fin.ext h1)
    show 1 < q.val
    omega

/-! ## By two rounds of the smallest position of the maximum -/

/-- `i` is the smallest position of the maximum. -/
structure FirstMax (L : Fin n → EReal) (i : Fin n) : Prop where
  max : ∀ a, L a ≤ L i
  min : ∀ a, a < i → L a < L i

/-- The smallest position of the maximum exists. -/
theorem exists_firstMax (L : Fin n → EReal) (h : 0 < n) : ∃ i, FirstMax L i := by
  haveI : NeZero n := ⟨h.ne'⟩
  obtain ⟨m, hm⟩ := Finite.exists_max L
  have hne : (Finset.univ.filter fun a => L a = L m).Nonempty := ⟨m, by simp⟩
  obtain ⟨i, hi, hmin⟩ := Finset.exists_min_image _ id hne
  have hi' : L i = L m := by simpa using hi
  refine ⟨i, fun a => hi' ▸ hm a, fun a ha => lt_of_le_of_ne (hi' ▸ hm a) fun hEq => ?_⟩
  exact absurd (hmin a (by simp [hEq, hi'])) (not_le.mpr ha)

/-- The values with position `i` blanked out. -/
def blank (L : Fin n → EReal) (i : Fin n) (e : Fin n) : EReal := if e = i then ⊥ else L e

/-- Where all values are real the two rounds find the two leading positions. -/
theorem topTwo_rounds (L : Fin n → EReal) (hn : 1 < n) (hL : ∀ e, L e ≠ ⊥) (i j : Fin n) (hi : FirstMax L i)
    (hj : FirstMax (blank L i) j) : TopTwo L i j := by
  have hne : j ≠ i := by
    rintro rfl
    haveI : Nontrivial (Fin n) := Fin.nontrivial_iff_two_le.mpr hn
    obtain ⟨e, he⟩ := exists_ne j
    have := hj.max e
    simp only [blank, if_neg he, if_true] at this
    exact hL e (le_bot_iff.mp this)
  refine ⟨fun a ha => ?_, hne, fun a ha ha' => ?_⟩
  · rcases (hi.max a).lt_or_eq with h | h
    · exact Or.inl h
    · refine Or.inr ⟨h, lt_of_le_of_ne (not_lt.mp fun hlt => (hi.min a hlt).ne h) (Ne.symm ha)⟩
  · have hm := hj.max a
    have hmin := hj.min a
    simp only [blank, if_neg ha, if_neg hne] at hm hmin
    rcases hm.lt_or_eq with h | h
    · exact Or.inl h
    · refine Or.inr ⟨h, lt_of_le_of_ne (not_lt.mp fun hlt => (hmin hlt).ne h) (Ne.symm ha')⟩

/-- The greatest of the values, from minus infinity. -/
def greatest (L : Fin n → EReal) : EReal := Finset.univ.fold max ⊥ L

/-- The greatest value is the one at the smallest position of the maximum. -/
theorem greatest_eq (L : Fin n → EReal) (i : Fin n) (hi : FirstMax L i) : greatest L = L i := by
  unfold greatest
  refine le_antisymm ?_ ?_
  · exact (Finset.fold_max_le _).mpr ⟨bot_le, fun a _ => hi.max a⟩
  · exact (Finset.le_fold_max _).mpr (Or.inr ⟨i, Finset.mem_univ i, le_rfl⟩)

/-- The smallest, as signed words and from the greatest such word, of the positions satisfying `p`, 64 standing for
    those that do not, is the smallest position satisfying `p`. -/
theorem fold_min_word (p : Fin 64 → Prop) [DecidablePred p] (i : Fin 64) (hi : p i) (hmin : ∀ e, p e → i ≤ e) :
    Finset.univ.fold IntOp.minsi 2147483647#32 (fun e : Fin 64 => if p e then BitVec.ofNat 32 e.val else 64#32)
      = BitVec.ofNat 32 i.val := by
  set f : Fin 64 → BitVec 32 := fun e => if p e then BitVec.ofNat 32 e.val else 64#32 with hf
  have key : ∀ s : Finset (Fin 64), (∀ e ∈ s, (s.fold IntOp.minsi 2147483647#32 f).toInt ≤ (f e).toInt)
      ∧ (s.fold IntOp.minsi 2147483647#32 f = 2147483647#32 ∨ ∃ e ∈ s, s.fold IntOp.minsi 2147483647#32 f = f e) := by
    intro s
    induction s using Finset.induction_on with
    | empty => exact ⟨by simp, Or.inl rfl⟩
    | insert a s ha ih =>
      rw [Finset.fold_insert ha]
      generalize s.fold IntOp.minsi 2147483647#32 f = w at ih
      have hw : (IntOp.minsi (f a) w = f a ∧ (f a).toInt ≤ w.toInt) ∨ (IntOp.minsi (f a) w = w ∧ w.toInt ≤ (f a).toInt) := by
        unfold IntOp.minsi
        by_cases h : (f a).slt w
        · exact Or.inl ⟨by simp [h], by rw [BitVec.slt_iff_toInt_lt] at h; omega⟩
        · exact Or.inr ⟨by simp [h], by rw [BitVec.slt_iff_toInt_lt] at h; omega⟩
      rcases hw with ⟨h, hle⟩ | ⟨h, hle⟩ <;> rw [h]
      · refine ⟨fun e he => ?_, Or.inr ⟨a, Finset.mem_insert_self a s, rfl⟩⟩
        rcases Finset.mem_insert.mp he with rfl | he
        · exact le_rfl
        · exact hle.trans (ih.1 e he)
      · refine ⟨fun e he => ?_, ih.2.imp id fun ⟨e, he, h'⟩ => ⟨e, Finset.mem_insert_of_mem he, h'⟩⟩
        rcases Finset.mem_insert.mp he with rfl | he
        · exact hle
        · exact ih.1 e he
  obtain ⟨hle, hmem⟩ := key Finset.univ
  generalize Finset.univ.fold IntOp.minsi 2147483647#32 f = w at hle hmem
  have small : ∀ e : Fin 64, (BitVec.ofNat 32 e.val).toInt = e.val := by decide
  have hwi := hle i (Finset.mem_univ i)
  simp only [hf, if_pos hi, small] at hwi
  have hi64 := i.isLt
  rcases hmem with h | ⟨e, _, h⟩
  · rw [h] at hwi
    have : (2147483647#32).toInt = 2147483647 := by decide
    omega
  · by_cases hp : p e
    · simp only [hf, if_pos hp] at h
      rw [h, small] at hwi
      have h2 := hmin e hp
      rw [h, show e = i from le_antisymm (Fin.le_def.mpr (by omega)) h2]
    · simp only [hf, if_neg hp] at h
      rw [h] at hwi
      have : (64#32).toInt = 64 := by decide
      omega

end Cert.Gating

end
-- ==== Proof.Gate.lean ====
/-
  The gate of one token, as mathematics over its 64 logits: the rectified logits; the mask of the positive ones, the
  two leading experts in its place where there is none; and the softmax of the rectified logits kept by the mask.
-/
module

public import proofs.«01_k».proof.Proof.Top2

@[expose] public section

noncomputable section

namespace Cert.Gating

open Idealize.ShloMosaic

/-- A choice by a decided condition. -/
theorem select_ofBool {α : Type} (c : Prop) [Decidable c] (a b : α) :
    Scalar.select (BitVec.ofBool (decide c)) a b = if c then a else b := by
  by_cases h : c <;> simp [Scalar.select, h]

open scoped Classical in
/-- One where the logit is positive, zero elsewhere. -/
def active (L : Fin 64 → EReal) (e : Fin 64) : EReal := if 0 < L e then 1 else 0

/-- No logit of the token is positive: the sum of the ones is zero. -/
def Idle (L : Fin 64 → EReal) : Prop := ∑ e, active L e = 0

open scoped Classical in
/-- The mask, `i` and `j` being the two leading experts. -/
def mask (L : Fin 64 → EReal) (i j e : Fin 64) : EReal := if Idle L ∧ (e = i ∨ e = j) then 1 else active L e

/-- The rectified logit. -/
def gated (L : Fin 64 → EReal) (e : Fin 64) : EReal := max (L e) 0

open scoped Classical in
/-- The rectified logits kept by the mask, minus infinity in place of the others. -/
def kept (L : Fin 64 → EReal) (i j e : Fin 64) : EReal := if 0 < mask L i j e then gated L e else ⊥

/-- The softmax: the exponential of each value less the greatest, divided by the sum of these. -/
def softmax (v : Fin 64 → EReal) (e : Fin 64) : EReal :=
  Ideal.div (Ideal.exp (v e - greatest v)) (∑ k, Ideal.exp (v k - greatest v))

/-- The gate's probabilities. -/
def probs (L : Fin 64 → EReal) (i j e : Fin 64) : EReal := softmax (kept L i j) e

end Cert.Gating

end
-- ==== Proof.Spec.lean ====
/-
  The whole problem's logits and its four results, as mathematics over its three arguments: 2 × 4096 tokens of 2048 entries, a
  2048 × 64 matrix with a column for each expert, and 64 thresholds.
-/
module

public import proofs.«01_k».proof.Proof.Logit
public import proofs.«01_k».proof.Proof.Gate
public import Idealize.ShloMosaic.Lib.Pointwise
public import Idealize.ShloMosaic.Lib.Pipeline.Value

@[expose] public section

noncomputable section

namespace Cert.Gating

open Idealize.ShloMosaic

/-- The tokens' shape. -/
abbrev XShape : Shape := ⟨3, ![2, 4096, 2048]⟩
/-- The experts' shape. -/
abbrev WShape : Shape := ⟨2, ![2048, 64]⟩
/-- The thresholds' shape. -/
abbrev GShape : Shape := ⟨1, ![64]⟩

/-- Token `r` of the 8192, numbered through the two batches. -/
def tokenRow (x : XShape.Idx → EReal) (r : Fin 8192) (k : Fin 2048) : EReal :=
  x (ix3 (⟨r.val / 4096, by omega⟩ : Fin 2) (⟨r.val % 4096, by omega⟩ : Fin 4096) k)

/-- Expert `e`'s column. -/
def expertCol (w : WShape.Idx → EReal) (e : Fin 64) (k : Fin 2048) : EReal := w (ix2 k e)

/-- Token `r`'s logits. -/
def logits (x : XShape.Idx → EReal) (w : WShape.Idx → EReal) (g : GShape.Idx → EReal) (r : Fin 8192) (e : Fin 64) : EReal :=
  logit (tokenRow x r) (expertCol w e) (g (ix1 e))

/-- No logit is infinite. -/
theorem logits_ne_bot (x : XShape.Idx → EReal) (w : WShape.Idx → EReal) (g : GShape.Idx → EReal) (r : Fin 8192) (e : Fin 64) :
    logits x w g r e ≠ ⊥ := by
  obtain ⟨a, ha⟩ := logit_real (tokenRow x r) (expertCol w e) (g (ix1 e))
  unfold logits
  rw [ha]
  exact EReal.coe_ne_bot a

/-- Every token has its two leading experts. -/
theorem exists_topTwo (L : Fin 64 → EReal) : ∃ q : Fin 64 × Fin 64, TopTwo L q.1 q.2 := by
  have h := topTwo_sorted L (by decide)
  generalize sortedFrom _ (⟨0, _⟩ : Fin 64) = i at h
  generalize sortedFrom _ (⟨1, _⟩ : Fin 64) = j at h
  exact ⟨(i, j), h⟩

/-- The two leading experts of a token. -/
def leading (L : Fin 64 → EReal) : Fin 64 × Fin 64 := (exists_topTwo L).choose

/-- They lead. -/
theorem leading_topTwo (L : Fin 64 → EReal) : TopTwo L (leading L).1 (leading L).2 := (exists_topTwo L).choose_spec

/-! ## The four results, as arrays over token and expert -/

/-- The results' shape. -/
abbrev RShape : Shape := ⟨2, ![8192, 64]⟩

section Results

variable (x : XShape.Idx → EReal) (w : WShape.Idx → EReal) (g : GShape.Idx → EReal)

/-- The probabilities. -/
def probsArray (i : RShape.Idx) : EReal :=
  probs (logits x w g (i 0)) (leading (logits x w g (i 0))).1 (leading (logits x w g (i 0))).2 (i 1)

/-- The logits. -/
def logitsArray (i : RShape.Idx) : EReal := logits x w g (i 0) (i 1)

/-- The mask. -/
def maskArray (i : RShape.Idx) : EReal :=
  mask (logits x w g (i 0)) (leading (logits x w g (i 0))).1 (leading (logits x w g (i 0))).2 (i 1)

/-- The rectified logits. -/
def gatedArray (i : RShape.Idx) : EReal := gated (logits x w g (i 0)) (i 1)

end Results

/-- The tokens cast to one 8192 × 2048 matrix, read at an entry. -/
theorem cast_row (x : XShape.Idx → EReal) (h : XShape.ShapeCasts ⟨2, ![8192, 2048]⟩) (r : Fin 8192) (k : Fin 2048) :
    shapeCast ⟨2, ![8192, 2048]⟩ x h (ix2 r k) = tokenRow x r k :=
  shapeCast_apply x h (ix2 r k) (ix3 (⟨r.val / 4096, by omega⟩ : Fin 2) (⟨r.val % 4096, by omega⟩ : Fin 4096) k) (by
    rw [Shape.rowMajor_val_three, Shape.rowMajor_val_two]
    show (r.val / 4096 * 4096 + r.val % 4096) * 2048 + k.val = r.val * 2048 + k.val
    rw [Nat.div_add_mod'])

end Cert.Gating

end
-- ==== Proof.KernelHost.lean ====
/-
  The arrays the kernel's blocks are cut from, as functions of its arguments: the tokens as one matrix, the experts'
  columns laid as rows, the thresholds as a row, and the sums of the columns' squares; and each block at a grid point.
-/
module

public import proofs.«01_k».proof.Proof.Spec
public import proofs.«01_k».proof.Proof.Gen.KernelIdeal.Value

@[expose] public section

noncomputable section

namespace Cert.Gating

open Idealize.ShloMosaic Idealize.ShloMosaic.TcCoe Idealize.ShloMosaic.StableHlo Cert.KernelIdeal Cert.KernelIdeal.Gen

variable (m : (ℓ : Loc nD τ sig) → Buf (Elt Ideal) ℓ) (c : Dev nD)

/-- The tokens as launched. -/
abbrev argX : XShape.Idx → EReal := m ((c : Thread nD τ).loc main_arg0)
/-- The experts' columns as launched. -/
abbrev argW : WShape.Idx → EReal := m ((c : Thread nD τ).loc main_arg1)
/-- The thresholds as launched. -/
abbrev argG : GShape.Idx → EReal := m ((c : Thread nD τ).loc main_arg2)

/-! ## The arrays before the launch -/

/-- The experts' columns as rows. -/
def flipped (w : WShape.Idx → EReal) : S64x2048.Idx → EReal := transpose S64x2048 [1, 0] w transposes_S2048x64_S64x2048_1_0

/-- The sums of their squares. -/
def squares (w : WShape.Idx → EReal) : S64x1.Idx → EReal :=
  broadcastInDim S64x1 ![0] bcast_S64_S64x1_0 (Host.reduceAdd (F := Ideal) (φ := .f32) (mulf (F := Ideal) (φ := .f32) (flipped w) (flipped w))
    (constant (F := Ideal) S_ .f32 0x00000000#32) reducesTo_S64x2048_S64_d1 h_S_)

/-- The first array is the tokens as one matrix. -/
theorem tokens_eq : V m c main_v0 = shapeCast S8192x2048 (argX m c) shapeCasts_S2x4096x2048_S8192x2048 := by
  unfold V hostOps0
  after_results
  rfl

/-- The second is the experts' columns as rows. -/
theorem flipped_eq : V m c main_v1 = flipped (argW m c) := by
  unfold V hostOps0 flipped
  after_results

/-- The third is the thresholds as a row. -/
theorem thresholds_eq : V m c main_v2 = shapeCast S1x64 (argG m c) shapeCasts_S64_S1x64 := by
  unfold V hostOps0
  after_results
  rfl

/-- The fourth is the sums of the columns' squares. -/
theorem squares_eq : V m c main_v5 = squares (argW m c) := by
  unfold V hostOps0 squares flipped
  after_results

/-- An expert's row is its column. -/
theorem flipped_apply (w : WShape.Idx → EReal) (e : Fin 64) (k : Fin 2048) : flipped w (ix2 e k) = expertCol w e k := by
  unfold flipped transpose expertCol
  refine congrArg w ?_
  funext a
  match a with | ⟨0, _⟩ => rfl | ⟨1, _⟩ => rfl

/-- The sum of an expert's squares. -/
theorem squares_apply (w : WShape.Idx → EReal) (e : Fin 64) : squares w (ix2 e 0) = sumSq (expertCol w e) := by
  unfold squares
  refine (broadcastInDim_apply _ bcast_S64_S64x1_0 _ (ix2 e 0 : S64x1.Idx) (ix1 e : S64.Idx)
    (fun a => match a with | ⟨0, _⟩ => rfl)).trans ?_
  have hr : S64x2048.Reduces [1] S64 := by decide
  refine (Ideal.hostReduceAdd_single reducesTo_S64x2048_S64_d1 hr _ _ (ix1 e : S64.Idx)).trans ?_
  refine (congrArg₂ (fun a b : EReal => a + b) Ideal.ofBits_zero_f32 (Finset.sum_congr rfl fun (k : Fin 2048) _ => ?_)).trans (zero_add _)
  have hi : hr.lift (ix1 e : S64.Idx) k = (ix2 e k : S64x2048.Idx) := by
    funext a
    match a with | ⟨0, _⟩ => rfl | ⟨1, _⟩ => rfl
  show flipped w (hr.lift (ix1 e : S64.Idx) k) * flipped w (hr.lift (ix1 e : S64.Idx) k) = _
  rw [hi, flipped_apply]

/-! ## The blocks at a grid point -/

/-- Token `p` of grid point `t`'s 1024 tokens. -/
def token (t : Fin cfg0.N) (p : Fin 1024) : Fin 8192 :=
  ⟨t.val * 1024 + p.val, by have h : t.val < 8 := lt_of_lt_of_eq t.isLt N_0; omega⟩

/-- Grid point `t` takes the `t`-th block of tokens. -/
theorem place0 : ∀ t : Fin cfg0.N, win0_0.index t (0 : Fin 2) = t.val ∧ win0_0.index t (1 : Fin 2) = 0 :=
  (by decide +kernel : ∀ t : Fin grid0.N, _)
/-- Every grid point takes all of the experts. -/
theorem place1 : ∀ t : Fin cfg0.N, win0_1.index t (0 : Fin 2) = 0 ∧ win0_1.index t (1 : Fin 2) = 0 :=
  (by decide +kernel : ∀ t : Fin grid0.N, _)
/-- Every grid point takes all of the thresholds. -/
theorem place2 : ∀ t : Fin cfg0.N, win0_2.index t (0 : Fin 2) = 0 ∧ win0_2.index t (1 : Fin 2) = 0 :=
  (by decide +kernel : ∀ t : Fin grid0.N, _)
/-- Every grid point takes all of the sums of squares. -/
theorem place3 : ∀ t : Fin cfg0.N, win0_3.index t (0 : Fin 2) = 0 ∧ win0_3.index t (1 : Fin 2) = 0 :=
  (by decide +kernel : ∀ t : Fin grid0.N, _)

/-- The block of tokens. -/
theorem block_tokens (t : Fin cfg0.N) (p : Fin 1024) (k : Fin 2048) :
    iblk m c 0 t (ix2 p k : S1024x2048.Idx) = tokenRow (argX m c) (token t p) k := by
  obtain ⟨e0, e1⟩ := place0 t
  have he : ((cfg0.win 0).blk t).view.emb (ix2 p k : S1024x2048.Idx) = (ix2 (token t p) k : S8192x2048.Idx) := by
    funext a; apply Fin.ext
    match a with
    | ⟨0, _⟩ => show win0_0.index t (0 : Fin 2) * 1024 + 1 * p.val = t.val * 1024 + p.val; omega
    | ⟨1, _⟩ => show win0_0.index t (1 : Fin 2) * 2048 + 1 * k.val = k.val; omega
  show V m c main_v0 (((cfg0.win 0).blk t).view.emb (ix2 p k : S1024x2048.Idx)) = _
  rw [he, tokens_eq]
  exact cast_row (argX m c) _ (token t p) k

/-- The block of experts: all of them. -/
theorem block_experts (t : Fin cfg0.N) (e : Fin 64) (k : Fin 2048) :
    iblk m c 1 t (ix2 e k : S64x2048.Idx) = expertCol (argW m c) e k := by
  obtain ⟨e0, e1⟩ := place1 t
  have he : ((cfg0.win 1).blk t).view.emb (ix2 e k : S64x2048.Idx) = (ix2 e k : S64x2048.Idx) := by
    funext a; apply Fin.ext
    match a with
    | ⟨0, _⟩ => show win0_1.index t (0 : Fin 2) * 64 + 1 * e.val = e.val; omega
    | ⟨1, _⟩ => show win0_1.index t (1 : Fin 2) * 2048 + 1 * k.val = k.val; omega
  show V m c main_v1 (((cfg0.win 1).blk t).view.emb (ix2 e k : S64x2048.Idx)) = _
  rw [he, flipped_eq]
  exact flipped_apply (argW m c) e k

/-- The block of thresholds: all of them. -/
theorem block_thresholds (t : Fin cfg0.N) (e : Fin 64) : iblk m c 2 t (ix2 0 e : S1x64.Idx) = argG m c (ix1 e) := by
  obtain ⟨e0, e1⟩ := place2 t
  have he : ((cfg0.win 2).blk t).view.emb (ix2 0 e : S1x64.Idx) = (ix2 0 e : S1x64.Idx) := by
    funext a; apply Fin.ext
    match a with
    | ⟨0, _⟩ => show win0_2.index t (0 : Fin 2) * 1 + 1 * 0 = 0; omega
    | ⟨1, _⟩ => show win0_2.index t (1 : Fin 2) * 64 + 1 * e.val = e.val; omega
  show V m c main_v2 (((cfg0.win 2).blk t).view.emb (ix2 0 e : S1x64.Idx)) = _
  rw [he, thresholds_eq]
  exact shapeCast_apply _ _ _ _ (by simp [Shape.rowMajor_val_one, Shape.rowMajor_val_two])

/-- The block of sums of squares: all of them. -/
theorem block_squares (t : Fin cfg0.N) (e : Fin 64) : iblk m c 3 t (ix2 e 0 : S64x1.Idx) = sumSq (expertCol (argW m c) e) := by
  obtain ⟨e0, e1⟩ := place3 t
  have he : ((cfg0.win 3).blk t).view.emb (ix2 e 0 : S64x1.Idx) = (ix2 e 0 : S64x1.Idx) := by
    funext a; apply Fin.ext
    match a with
    | ⟨0, _⟩ => show win0_3.index t (0 : Fin 2) * 64 + 1 * e.val = e.val; omega
    | ⟨1, _⟩ => show win0_3.index t (1 : Fin 2) * 1 + 1 * 0 = 0; omega
  show V m c main_v5 (((cfg0.win 3).blk t).view.emb (ix2 e 0 : S64x1.Idx)) = _
  rw [he, squares_eq]
  exact squares_apply (argW m c) e

end Cert.Gating

end
-- ==== Proof.RowSquares.lean ====
/-
  The sum of the squares of each token's row, as the kernel adds it up over its 1024×2048 block: sixteen slabs of 128
  columns squared and added lane by lane, the 128 lanes folded to eight, and the eight to one by halving. It is the sum
  over the 2048 columns.
-/
module

public import proofs.«01_k».proof.Proof.Logit
public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.Gating

open Idealize.ShloMosaic Cert.KernelIdeal Cert.KernelIdeal.Gen

/-! ## Slices and slabs at an index -/

/-- A slice of columns, read at one token and one of its columns. -/
theorem slice_apply {n l : ℕ} (o : ℕ) (v : (⟨2, ![1024, n]⟩ : Shape).Idx → EReal)
    (h : (⟨2, ![1024, n]⟩ : Shape).Slices ![0, o] ⟨2, ![1024, l]⟩) (p : Fin 1024) (c : Fin l) (k : Fin n) (hk : k.val = o + c.val) :
    extractStridedSlice ⟨2, ![1024, l]⟩ ![0, o] v h (ix2 p c) = v (ix2 p k) :=
  extractStridedSlice_apply _ v h (ix2 p c) (ix2 p k)
    fun a => match a with | ⟨0, _⟩ => (Nat.zero_add _).symm | ⟨1, _⟩ => hk

/-- A slab of 128 columns of the block, squared, read at one token and one lane. -/
theorem slab_sq (x : Vec Ideal S1024x2048 .f32) (o : ℕ) (h) (p : Fin 1024) (q : Fin 128) (k : Fin 2048) (hk : k.val = o + q.val) :
    mulf (shapeCast S1024x128 (View.ld x (Rect.unit (s := S1024x2048) ![0, o] S1024x128.size h)) shapeCasts_S1024x128_S1024x128 : FVec Ideal S1024x128 .f32)
      (shapeCast S1024x128 (View.ld x (Rect.unit (s := S1024x2048) ![0, o] S1024x128.size h)) shapeCasts_S1024x128_S1024x128 : FVec Ideal S1024x128 .f32)
      (ix2 p q) = x (ix2 p k) * x (ix2 p k) := by
  have e : (shapeCast S1024x128 (View.ld x (Rect.unit (s := S1024x2048) ![0, o] S1024x128.size h)) shapeCasts_S1024x128_S1024x128 : FVec Ideal S1024x128 .f32)
      (ix2 p q) = x (ix2 p k) := by
    refine (congrFun (shapeCast_self _ _) _).trans ?_
    exact View.ld_unit_apply_of x ![0, o] S1024x128.size h (ix2 p q) (ix2 p k)
      fun a => match a with | ⟨0, _⟩ => (Nat.zero_add _).symm | ⟨1, _⟩ => hk
  show _ * _ = _
  rw [e]

/-! ## The three stages -/

/-- The sixteen slabs' squares, added. -/
def laneSquares (x : Vec Ideal S1024x2048 .f32) : FVec Ideal S1024x128 .f32 :=
  k0_pay6 (k0_pay5 (View.ld x r0_4) (View.ld x r0_5) (View.ld x r0_6) (View.ld x r0_7) (View.ld x r0_8) (View.ld x r0_9))
    (View.ld x r0_10) (View.ld x r0_11) (View.ld x r0_12) (View.ld x r0_13) (View.ld x r0_14) (View.ld x r0_15) (View.ld x r0_16)
    (View.ld x r0_17) (View.ld x r0_18) (View.ld x r0_19)

/-- A lane of it: the squares of the sixteen columns that lie on the lane. -/
theorem laneSquares_apply (x : Vec Ideal S1024x2048 .f32) (p : Fin 1024) (q : Fin 128) :
    laneSquares x (ix2 p q) = ∑ j : Fin 16, x (ix2 p ⟨128 * j.val + q.val, by omega⟩) * x (ix2 p ⟨128 * j.val + q.val, by omega⟩) := by
  simp only [Fin.sum_univ_castSucc, Finset.univ_eq_empty, Finset.sum_empty, zero_add]
  unfold laneSquares k0_pay6 k0_pay5
  repeat' refine congrArg₂ (fun a b : EReal => a + b) ?_ ?_
  all_goals exact slab_sq x _ _ p q _ rfl

/-- The 128 lanes folded to eight. -/
def eighths (v : FVec Ideal S1024x128 .f32) : FVec Ideal S1024x8 .f32 :=
  addf (addf (addf (addf (addf (addf (addf (addf (addf (addf (addf (addf (addf (addf (addf
    (extractStridedSlice S1024x8 ![0, 0] v slices_S1024x128_o0_0_S1024x8)
    (extractStridedSlice S1024x8 ![0, 8] v slices_S1024x128_o0_8_S1024x8))
    (extractStridedSlice S1024x8 ![0, 16] v slices_S1024x128_o0_16_S1024x8))
    (extractStridedSlice S1024x8 ![0, 24] v slices_S1024x128_o0_24_S1024x8))
    (extractStridedSlice S1024x8 ![0, 32] v slices_S1024x128_o0_32_S1024x8))
    (extractStridedSlice S1024x8 ![0, 40] v slices_S1024x128_o0_40_S1024x8))
    (extractStridedSlice S1024x8 ![0, 48] v slices_S1024x128_o0_48_S1024x8))
    (extractStridedSlice S1024x8 ![0, 56] v slices_S1024x128_o0_56_S1024x8))
    (extractStridedSlice S1024x8 ![0, 64] v slices_S1024x128_o0_64_S1024x8))
    (extractStridedSlice S1024x8 ![0, 72] v slices_S1024x128_o0_72_S1024x8))
    (extractStridedSlice S1024x8 ![0, 80] v slices_S1024x128_o0_80_S1024x8))
    (extractStridedSlice S1024x8 ![0, 88] v slices_S1024x128_o0_88_S1024x8))
    (extractStridedSlice S1024x8 ![0, 96] v slices_S1024x128_o0_96_S1024x8))
    (extractStridedSlice S1024x8 ![0, 104] v slices_S1024x128_o0_104_S1024x8))
    (extractStridedSlice S1024x8 ![0, 112] v slices_S1024x128_o0_112_S1024x8))
    (extractStridedSlice S1024x8 ![0, 120] v slices_S1024x128_o0_120_S1024x8)

/-- One of the eight: the sum of the sixteen lanes it stands for. -/
theorem eighths_apply (v : FVec Ideal S1024x128 .f32) (p : Fin 1024) (c : Fin 8) :
    eighths v (ix2 p c) = ∑ j : Fin 16, v (ix2 p ⟨8 * j.val + c.val, by omega⟩) := by
  simp only [Fin.sum_univ_castSucc, Finset.univ_eq_empty, Finset.sum_empty, zero_add]
  unfold eighths
  repeat' refine congrArg₂ (fun a b : EReal => a + b) ?_ ?_
  all_goals exact slice_apply _ v _ p c _ rfl

/-- Four of the eight added to the other four. -/
def quarters (v : FVec Ideal S1024x8 .f32) : FVec Ideal S1024x4 .f32 :=
  addf (extractStridedSlice S1024x4 ![0, 0] v slices_S1024x8_o0_0_S1024x4) (extractStridedSlice S1024x4 ![0, 4] v slices_S1024x8_o0_4_S1024x4)

/-- Two of the four added to the other two. -/
def halves (v : FVec Ideal S1024x4 .f32) : FVec Ideal S1024x2 .f32 :=
  addf (extractStridedSlice S1024x2 ![0, 0] v slices_S1024x4_o0_0_S1024x2) (extractStridedSlice S1024x2 ![0, 2] v slices_S1024x4_o0_2_S1024x2)

/-- The last two added. -/
def whole (v : FVec Ideal S1024x2 .f32) : FVec Ideal S1024x1 .f32 :=
  addf (extractStridedSlice S1024x1 ![0, 0] v slices_S1024x2_o0_0_S1024x1) (extractStridedSlice S1024x1 ![0, 1] v slices_S1024x2_o0_1_S1024x1)

/-- Halving three times adds up all eight. -/
theorem whole_apply (v : FVec Ideal S1024x8 .f32) (p : Fin 1024) :
    whole (halves (quarters v)) (ix2 p 0) = ∑ c : Fin 8, v (ix2 p c) := by
  have h4 : ∀ c : Fin 4, quarters v (ix2 p c) = v (ix2 p ⟨c.val, by omega⟩) + v (ix2 p ⟨4 + c.val, by omega⟩) := fun c =>
    congrArg₂ (fun a b : EReal => a + b) (slice_apply 0 v _ p c ⟨c.val, by omega⟩ (Nat.zero_add _).symm)
      (slice_apply 4 v _ p c ⟨4 + c.val, by omega⟩ rfl)
  have h2 : ∀ c : Fin 2, halves (quarters v) (ix2 p c)
      = quarters v (ix2 p ⟨c.val, by omega⟩) + quarters v (ix2 p ⟨2 + c.val, by omega⟩) := fun c =>
    congrArg₂ (fun a b : EReal => a + b) (slice_apply 0 (quarters v) _ p c ⟨c.val, by omega⟩ (Nat.zero_add _).symm)
      (slice_apply 2 (quarters v) _ p c ⟨2 + c.val, by omega⟩ rfl)
  have h1 : whole (halves (quarters v)) (ix2 p 0)
      = halves (quarters v) (ix2 p (0 : Fin 2)) + halves (quarters v) (ix2 p (1 : Fin 2)) :=
    congrArg₂ (fun a b : EReal => a + b) (slice_apply 0 (halves (quarters v)) _ p 0 0 rfl)
      (slice_apply 1 (halves (quarters v)) _ p 0 1 rfl)
  rw [h1, h2, h2, h4, h4, h4, h4, Fin.sum_univ_eight]
  show (v (ix2 p (0 : Fin 8)) + v (ix2 p (4 : Fin 8)) + (v (ix2 p (2 : Fin 8)) + v (ix2 p (6 : Fin 8))))
    + (v (ix2 p (1 : Fin 8)) + v (ix2 p (5 : Fin 8)) + (v (ix2 p (3 : Fin 8)) + v (ix2 p (7 : Fin 8)))) = _
  ac_rfl

/-! ## The sum -/

/-- A sum over `m * n` positions, taken by stride: the positions `n * j + c` for each `c`. -/
theorem sum_strided {N : ℕ} (m n : ℕ) (hN : m * n = N) (f : Fin N → EReal) :
    ∑ c : Fin n, ∑ j : Fin m, f ⟨n * j.val + c.val, by
        subst hN
        calc n * j.val + c.val < n * j.val + n := by omega
          _ = n * (j.val + 1) := by ring
          _ ≤ n * m := Nat.mul_le_mul_left n j.isLt
          _ = m * n := Nat.mul_comm n m⟩ = ∑ k, f k := by
  subst hN
  rw [Finset.sum_comm, ← Fintype.sum_prod_type', ← Equiv.sum_comp finProdFinEquiv f]
  exact Finset.sum_congr rfl fun q _ => congrArg f (Fin.ext (Nat.add_comm _ _))

/-- The kernel's sum of squares of a token's row is the sum over the row. -/
theorem rowSquares_apply (x : Vec Ideal S1024x2048 .f32) (p : Fin 1024) :
    whole (halves (quarters (eighths (laneSquares x)))) (ix2 p 0) = sumSq fun k : Fin 2048 => x (ix2 p k) := by
  rw [whole_apply]
  simp only [eighths_apply, laneSquares_apply]
  unfold sumSq
  rw [← sum_strided 16 128 rfl fun k : Fin 2048 => x (ix2 p k) * x (ix2 p k)]
  exact sum_strided 16 8 rfl fun q : Fin 128 =>
    ∑ j : Fin 16, x (ix2 p ⟨128 * j.val + q.val, by omega⟩) * x (ix2 p ⟨128 * j.val + q.val, by omega⟩)

end Cert.Gating

end
-- ==== Proof.KernelLogit.lean ====
/-
  The kernel's block of logits, read at one token and one expert: the logit of `Logit.lean` of the token's row, the
  expert's row and the expert's threshold, whenever the fourth input holds each expert's sum of squares.
-/
module

public import proofs.«01_k».proof.Proof.RowSquares
public import Idealize.ShloMosaic.Lib.ValueIdx

@[expose] public section

set_option maxRecDepth 16384

noncomputable section

namespace Cert.Gating

open Idealize.ShloMosaic.ValueIdx (contrEquiv1 contrEquiv1_symm_val)
open Idealize.ShloMosaic Cert.KernelIdeal Cert.KernelIdeal.Gen

/-! ## The product's operands -/

/-- The product of the two operands contracted over their 2048 columns. -/
abbrev contraction : DotDims S64x2048 S1024x2048 S64x1024 := dot_S64x2048_S1024x2048_S64x1024_1_1_0_0_n_n

/-- The left operand is read in the row of the result's expert. -/
theorem lhs_row (j : S64x1024.Idx) (q : DotDims.contr contraction |>.Idx) : (DotDims.lhsIdx contraction j q 0).val = (j 0).val := by
  unfold DotDims.lhsIdx
  rw [dif_neg (show ¬(0 : Fin S64x2048.rank) ∈ DotDims.lhsBatch contraction by decide),
    dif_pos (show (0 : Fin S64x2048.rank) ∈ DotDims.lhsNonContracting contraction by decide)]
  rfl

/-- The left operand is read in the column summed over. -/
theorem lhs_col (j : S64x1024.Idx) (q : DotDims.contr contraction |>.Idx) : (DotDims.lhsIdx contraction j q 1).val = (q ⟨0, by decide⟩).val :=
  DotDims.lhsIdx_val_of_single contraction rfl j q

/-- The right operand is read in the row of the result's token. -/
theorem rhs_row (j : S64x1024.Idx) (q : DotDims.contr contraction |>.Idx) : (DotDims.rhsIdx contraction j q 0).val = (j 1).val := by
  unfold DotDims.rhsIdx
  rw [dif_neg (show ¬(0 : Fin S1024x2048.rank) ∈ DotDims.rhsBatch contraction by decide),
    dif_pos (show (0 : Fin S1024x2048.rank) ∈ DotDims.rhsNonContracting contraction by decide)]
  rfl

/-- The right operand is read in the column summed over. -/
theorem rhs_col (j : S64x1024.Idx) (q : DotDims.contr contraction |>.Idx) : (DotDims.rhsIdx contraction j q 1).val = (q ⟨0, by decide⟩).val :=
  DotDims.rhsIdx_val_of_single contraction rfl j q

/-- The product at an expert and a token is the inner product of their rows. -/
theorem product_apply (a : FVec Ideal S64x2048 .f32) (b : FVec Ideal S1024x2048 .f32) (e : Fin 64) (p : Fin 1024) :
    matmul contraction none a b (constant S64x1024 .f32 0x00000000#32) (ix2 e p) = ∑ k : Fin 2048, a (ix2 e k) * b (ix2 p k) := by
  refine (Ideal.matmul_constant_zero_apply contraction none a b (ix2 e p)).trans ?_
  rw [← Equiv.sum_comp (contrEquiv1 contraction 2048 rfl rfl).symm]
  refine Finset.sum_congr rfl fun k _ => ?_
  have hk := contrEquiv1_symm_val contraction 2048 rfl rfl k
  refine congrArg₂ (fun x y : EReal => x * y) (congrArg a (funext fun d => Fin.ext ?_)) (congrArg b (funext fun d => Fin.ext ?_))
  · match d with
    | ⟨0, _⟩ => exact lhs_row _ _
    | ⟨1, _⟩ => exact (lhs_col _ _).trans hk
  · match d with
    | ⟨0, _⟩ => exact rhs_row _ _
    | ⟨1, _⟩ => exact (rhs_col _ _).trans hk

/-! ## The parts of the block -/

/-- The tokens' rows, each divided by the larger of its norm and `eps`. -/
def tokens (x : Vec Ideal S1024x2048 .f32) : FVec Ideal S1024x2048 .f32 :=
  divf (shapeCast S1024x2048 (View.ld x r0_3) shapeCasts_S1024x2048_S1024x2048) (broadcastTo S1024x2048
    (maximumf (sqrt (whole (halves (quarters (eighths (laneSquares x)))))) (broadcast S1024x1 (Scalar.ofBits .f32 0x2B8CBCCC#32)))
    broadcasts_S1024x1_S1024x2048)

/-- The sigmoid of each expert's threshold, as a row. -/
def sigmoids (g : Vec Ideal S1x64 .f32) : FVec Ideal S1x64 .f32 :=
  divf (broadcast S1x64 (Scalar.ofBits .f32 0x3F800000#32)) (addf (broadcast S1x64 (Scalar.ofBits .f32 0x3F800000#32))
    (exp (subf (broadcast S1x64 (Scalar.ofBits .f32 0x00000000#32)) (shapeCast S1x64 (View.ld g r0_1) shapeCasts_S1x64_S1x64))))

/-- The block of logits is put together from these. -/
theorem pay15_eq (x : Vec Ideal S1024x2048 .f32) (w : Vec Ideal S64x2048 .f32) (g : Vec Ideal S1x64 .f32) (c : Vec Ideal S64x1 .f32) :
    k0_pay15 x w g c = subf (transpose S1024x64 [1, 0] (matmul contraction none (k0_pay3 (View.ld w r0_0) (View.ld c r0_2)) (tokens x)
      (constant S64x1024 .f32 0x00000000#32)) transposes_S64x1024_p1_0_S1024x64)
      (broadcastTo S1024x64 (sigmoids g) broadcasts_S1x64_S1024x64) := rfl

/-- A load of a whole block, cast to its own shape, reads the block. -/
theorem whole_load {s : Shape} (v : Vec Ideal s .f32) (off : Fin s.rank → ℕ) (h) (hc : s.ShapeCasts s) (i : s.Idx)
    (h0 : ∀ a, off a = 0) :
    (shapeCast s (View.ld v (Rect.unit off s.size h)) hc : FVec Ideal s .f32) i = v i :=
  (congrFun (shapeCast_self _ _) i).trans
    (View.ld_unit_apply_of v off s.size h i i fun a => by rw [h0 a, Nat.zero_add])

/-- A token's row, normalised. -/
theorem tokens_apply (x : Vec Ideal S1024x2048 .f32) (p : Fin 1024) (k : Fin 2048) :
    tokens x (ix2 p k) = normalised (fun k => x (ix2 p k)) k := by
  unfold tokens normalised
  refine congrArg₂ Ideal.div ?_ ?_
  · exact whole_load x ![0, 0] _ _ (ix2 p k) fun a => match a with | ⟨0, _⟩ => rfl | ⟨1, _⟩ => rfl
  · refine (broadcastTo_apply _ broadcasts_S1024x1_S1024x2048 (ix2 p k) (ix2 p 0 : S1024x1.Idx)
      (fun a => match a with | ⟨0, _⟩ => rfl | ⟨1, _⟩ => rfl)).trans ?_
    show max (Ideal.sqrt (whole (halves (quarters (eighths (laneSquares x)))) (ix2 p 0))) eps = _
    rw [rowSquares_apply]

/-- An expert's row, normalised, if `c` holds its sum of squares. -/
theorem experts_apply (w : Vec Ideal S64x2048 .f32) (c : Vec Ideal S64x1 .f32) (e : Fin 64) (k : Fin 2048)
    (hc : c (ix2 e 0) = sumSq fun k : Fin 2048 => w (ix2 e k)) :
    k0_pay3 (View.ld w r0_0) (View.ld c r0_2) (ix2 e k) = normalised (fun k => w (ix2 e k)) k := by
  unfold k0_pay3 normalised
  refine congrArg₂ Ideal.div ?_ ?_
  · exact whole_load w ![0, 0] _ _ (ix2 e k) fun a => match a with | ⟨0, _⟩ => rfl | ⟨1, _⟩ => rfl
  · refine (broadcastTo_apply _ broadcasts_S64x1_S64x2048 (ix2 e k) (ix2 e 0 : S64x1.Idx)
      (fun a => match a with | ⟨0, _⟩ => rfl | ⟨1, _⟩ => rfl)).trans ?_
    refine congrArg₂ max (congrArg Ideal.sqrt ?_) rfl
    refine Eq.trans ?_ hc
    exact whole_load c ![0, 0] _ _ (ix2 e 0) fun a => match a with | ⟨0, _⟩ => rfl | ⟨1, _⟩ => rfl

/-- The sigmoid of an expert's threshold. -/
theorem sigmoids_apply (g : Vec Ideal S1x64 .f32) (e : Fin 64) : sigmoids g (ix2 0 e) = sigmoid (g (ix2 0 e)) := by
  have h : (shapeCast S1x64 (View.ld g r0_1) shapeCasts_S1x64_S1x64 : FVec Ideal S1x64 .f32) (ix2 0 e) = g (ix2 0 e) :=
    whole_load g ![0, 0] _ _ (ix2 0 e) fun a => match a with | ⟨0, _⟩ => rfl | ⟨1, _⟩ => rfl
  show Ideal.div (Ideal.ofBits .f32 0x3F800000#32) (Ideal.ofBits .f32 0x3F800000#32
    + Ideal.exp (Ideal.ofBits .f32 0x00000000#32 - (shapeCast S1x64 (View.ld g r0_1) shapeCasts_S1x64_S1x64 : FVec Ideal S1x64 .f32) (ix2 0 e))) = _
  rw [h, one_word, Ideal.ofBits_zero_f32, zero_sub]
  rfl

/-- The block's logit of one token for one expert. -/
theorem pay15_apply (x : Vec Ideal S1024x2048 .f32) (w : Vec Ideal S64x2048 .f32) (g : Vec Ideal S1x64 .f32) (c : Vec Ideal S64x1 .f32)
    (p : Fin 1024) (e : Fin 64) (hc : c (ix2 e 0) = sumSq fun k : Fin 2048 => w (ix2 e k)) :
    k0_pay15 x w g c (ix2 p e) = logit (fun k : Fin 2048 => x (ix2 p k)) (fun k => w (ix2 e k)) (g (ix2 0 e)) := by
  rw [pay15_eq]
  unfold logit
  refine congrArg₂ (fun a b : EReal => a - b) ?_ ?_
  · refine (transpose_apply [1, 0] _ transposes_S64x1024_p1_0_S1024x64 (ix2 p e) (ix2 e p : S64x1024.Idx)
      (fun b => match b with | ⟨0, _⟩ => rfl | ⟨1, _⟩ => rfl)).trans ?_
    refine (product_apply _ _ e p).trans (Finset.sum_congr rfl fun k _ => ?_)
    rw [experts_apply w c e k hc, tokens_apply]
    exact mul_comm _ _
  · refine (broadcastTo_apply _ broadcasts_S1x64_S1024x64 (ix2 p e) (ix2 0 e : S1x64.Idx)
      (fun a => match a with | ⟨0, _⟩ => rfl | ⟨1, _⟩ => rfl)).trans ?_
    exact sigmoids_apply g e

end Cert.Gating

end
-- ==== Proof.KernelGate.lean ====
/-
  What the kernel's block computes from its 1024×64 block of logits, read at one token and one expert: the rectified
  logit, the mask and the probability of `Gate.lean`, over the token's row of the block.
-/
module

public import proofs.«01_k».proof.Proof.Logit
public import proofs.«01_k».proof.Proof.Gate
public import proofs.«01_k».proof.Proof.Gen.KernelIdeal.Skeleton
public import Idealize.ShloMosaic.Lib.ValueIdx
public import Idealize.ShloMosaic.Lib.Pipeline.Value
public import Idealize.ShloMosaic.Lib.Pointwise

@[expose] public section

noncomputable section

namespace Cert.Gating

open Idealize.ShloMosaic.ValueIdx (select_apply cmpf_apply broadcast_apply sitofp_apply extui_apply)
open Idealize.ShloMosaic Cert.KernelIdeal Cert.KernelIdeal.Gen

/-- The two coordinates a reduction over the second axis reads at. -/
theorem lift_row (p : Fin 1024) (k : Fin 64) :
    (reduces_S1024x64_S1024 : S1024x64.Reduces [1] S1024).lift (ix1 p) k = ix2 p k := by
  funext a
  match a with
  | ⟨0, _⟩ => rfl
  | ⟨1, _⟩ => rfl

/-- A column of per-token values, spread over the experts, read at one of them. -/
theorem spread_apply {α : Type} (v : S1024.Idx → α) (p : Fin 1024) (e : Fin 64) :
    broadcastTo S1024x64 (shapeCast S1024x1 v shapeCasts_S1024_S1024x1) broadcasts_S1024x1_S1024x64 (ix2 p e) = v (ix1 p) := by
  refine (broadcastTo_apply _ broadcasts_S1024x1_S1024x64 (ix2 p e) (ix2 p 0 : S1024x1.Idx)
    (fun a => match a with | ⟨0, _⟩ => rfl | ⟨1, _⟩ => rfl)).trans ?_
  exact shapeCast_apply _ _ _ _ (by simp [Shape.rowMajor_val_one, Shape.rowMajor_val_two])

/-- The sum of a row. -/
theorem rowSum_apply (v : FVec Ideal S1024x64 .f32) (p : Fin 1024) :
    multiReduction .add [1] S1024 v 0x00000000#32 reduces_S1024x64_S1024 (.inl rfl) rfl (ix1 p) = ∑ k : Fin 64, v (ix2 p k) := by
  refine (Ideal.multiReduction_add_single v _ _ _ _ (ix1 p)).trans ?_
  exact Finset.sum_congr rfl fun k _ => congrArg v (lift_row p k)

/-- The greatest of a row. -/
theorem rowMax_apply (v : FVec Ideal S1024x64 .f32) (p : Fin 1024) :
    multiReduction .maximumf [1] S1024 v 0xFF800000#32 reduces_S1024x64_S1024 (.inl rfl) rfl (ix1 p)
      = greatest fun k => v (ix2 p k) := by
  refine (Ideal.multiReduction_maximumf_single v _ _ _ _ (ix1 p)).trans ?_
  unfold greatest
  rw [show FloatOps.ofBits (F := Ideal) .f32 0xFF800000#32 = (⊥ : EReal) from bot_word]
  exact Finset.fold_congr fun k _ => congrArg v (lift_row p k)

/-- The smallest word of a row. -/
theorem rowMin_apply (v : IVec S1024x64 32) (p : Fin 1024) :
    multiReductionI .minsi [1] S1024 v 2147483647#32 reduces_S1024x64_S1024 rfl (ix1 p)
      = Finset.univ.fold IntOp.minsi 2147483647#32 fun k : Fin 64 => v (ix2 p k) := by
  refine (multiReductionI_eq_fold .minsi v _ _ _ (ix1 p)).trans ?_
  refine (Shape.Reduces.fold_filter_drop_single _ _ _ _ _).trans ?_
  exact Finset.fold_congr fun k _ => congrArg v (lift_row p k)

/-- The rectified logits. -/
theorem pay10_apply (L : FVec Ideal S1024x64 .f32) (p : Fin 1024) (e : Fin 64) :
    k0_pay10 L (Scalar.ofBits .f32 0x00000000#32) (ix2 p e) = gated (fun k => L (ix2 p k)) e := by
  show max (L (ix2 p e)) (Ideal.ofBits .f32 0x00000000#32) = _
  rw [Ideal.ofBits_zero_f32]
  rfl

/-- The number of each expert. -/
theorem iota_apply' (p : Fin 1024) (k : Fin 64) :
    iota .tc S1024x64 32 [1] iota_S1024x64_d1_w32 (ix2 p k) = BitVec.ofNat 32 k.val := by
  simp [iota]

/-- The comparison of two experts' numbers. -/
theorem eq_number (a b : Fin 64) : IntOp.cmpi .eq (BitVec.ofNat 32 a.val) (BitVec.ofNat 32 b.val) = BitVec.ofBool (decide (a = b)) := by
  revert a b
  decide

open scoped Classical in
/-- The comparison "greater than zero" as a number. -/
theorem positive_word (x : EReal) :
    FloatOps.sitofp (F := Ideal) .f32 ((FloatOps.cmpf (F := Ideal) (φ := .f32) .ogt x (Scalar.ofBits .f32 0x00000000#32)).setWidth 32)
      = if 0 < x then (1 : EReal) else 0 := by
  show (((BitVec.setWidth 32 (BitVec.ofBool (decide (Ideal.ofBits .f32 0x00000000#32 < x)))).toInt : ℝ) : EReal) = _
  rw [Ideal.ofBits_zero_f32]
  by_cases h : 0 < x <;> simp [h]

/-- One round: the smallest expert whose logit is the greatest. -/
theorem round_word (r : Fin 64 → EReal) (i : Fin 64) (hi : FirstMax r i) :
    (Finset.univ.fold IntOp.minsi 2147483647#32 fun k : Fin 64 =>
      Scalar.select (FloatOps.cmpf (F := Ideal) (φ := .f32) .oeq (r k) (greatest r)) (BitVec.ofNat 32 k.val) 64#32)
      = BitVec.ofNat 32 i.val := by
  classical
  rw [← fold_min_word (fun k => r k = greatest r) i (greatest_eq r i hi).symm fun e he => not_lt.mp fun hlt =>
    (hi.min e hlt).ne (he.trans (greatest_eq r i hi))]
  exact Finset.fold_congr fun k _ => select_ofBool (r k = greatest r) _ _

/-! ## The two rounds, over the block -/

/-- The row of one token. -/
abbrev row (L : FVec Ideal S1024x64 .f32) (p : Fin 1024) : Fin 64 → EReal := fun k => L (ix2 p k)

/-- Each token's value spread over its row. -/
def spread {α : Type} (v : S1024.Idx → α) : S1024x64.Idx → α :=
  broadcastTo S1024x64 (shapeCast S1024x1 v shapeCasts_S1024_S1024x1) broadcasts_S1024x1_S1024x64

/-- The experts' numbers. -/
def numbers : IVec S1024x64 32 := iota .tc S1024x64 32 [1] iota_S1024x64_d1_w32

/-- Each token's greatest value. -/
def rowMax (v : FVec Ideal S1024x64 .f32) : FVec Ideal S1024 .f32 :=
  multiReduction .maximumf [1] S1024 v 0xFF800000#32 reduces_S1024x64_S1024 (.inl rfl) rfl

/-- Each token's smallest expert of greatest value. -/
def best (v : FVec Ideal S1024x64 .f32) : IVec S1024 32 :=
  multiReductionI .minsi [1] S1024 (select (cmpf .oeq v (spread (rowMax v))) numbers (broadcast S1024x64 64#32)) 2147483647#32
    reduces_S1024x64_S1024 rfl

/-- The block with each token's given expert blanked out. -/
def blanked (v : FVec Ideal S1024x64 .f32) (w : IVec S1024 32) : FVec Ideal S1024x64 .f32 :=
  select (cmpi .eq numbers (spread w)) (broadcast S1024x64 (Scalar.ofBits .f32 0xFF800000#32)) v

/-- Ones at the positive values, zeros elsewhere. -/
def ones (v : FVec Ideal S1024x64 .f32) : FVec Ideal S1024x64 .f32 :=
  sitofp .f32 (extui 32 (cmpf .ogt v (broadcast S1024x64 (Scalar.ofBits .f32 0x00000000#32))) natLt_1_32)

/-- Whether each token has no positive value, on every expert. -/
def idle (v : FVec Ideal S1024x64 .f32) : IVec S1024x64 1 :=
  broadcastTo S1024x64 (cmpf .oeq (shapeCast S1024x1
      (multiReduction .add [1] S1024 (ones v) 0x00000000#32 reduces_S1024x64_S1024 (.inl rfl) rfl) shapeCasts_S1024_S1024x1)
    (broadcast S1024x1 (Scalar.ofBits (F := Ideal) .f32 0x00000000#32))) broadcasts_S1024x1_S1024x64

/-- The block's mask is put together from these. -/
theorem pay11_eq (L : FVec Ideal S1024x64 .f32) : k0_pay11 L
    = select (andi (idle L) (ori (cmpi .eq numbers (spread (best L)))
        (cmpi .eq numbers (spread (best (blanked L (best L)))))))
      (broadcast S1024x64 (Scalar.ofBits .f32 0x3F800000#32)) (ones L) := rfl

/-- The greatest value of a token's row, read on every expert. -/
theorem rowMax_spread (v : FVec Ideal S1024x64 .f32) (p : Fin 1024) (e : Fin 64) :
    spread (rowMax v) (ix2 p e) = greatest (row v p) :=
  (spread_apply _ p e).trans (rowMax_apply v p)

/-- The smallest expert of greatest value in a token's row. -/
theorem best_apply (v : FVec Ideal S1024x64 .f32) (p : Fin 1024) (i : Fin 64) (hi : FirstMax (row v p) i) :
    best v (ix1 p) = BitVec.ofNat 32 i.val := by
  refine (rowMin_apply _ p).trans ((Finset.fold_congr fun k _ => ?_).trans (round_word (row v p) i hi))
  show Scalar.select (FloatOps.cmpf .oeq (v (ix2 p k)) (spread (rowMax v) (ix2 p k))) (numbers (ix2 p k)) 64#32 = _
  rw [rowMax_spread, show numbers (ix2 p k) = _ from iota_apply' p k]

/-- Whether an expert is a token's given one. -/
theorem isNumber_apply (w : IVec S1024 32) (p : Fin 1024) (e i : Fin 64) (hw : w (ix1 p) = BitVec.ofNat 32 i.val) :
    cmpi .eq numbers (spread w) (ix2 p e) = BitVec.ofBool (decide (e = i)) := by
  show IntOp.cmpi .eq (numbers (ix2 p e)) (spread w (ix2 p e)) = _
  rw [show spread w (ix2 p e) = _ from spread_apply w p e, hw, show numbers (ix2 p e) = _ from iota_apply' p e, eq_number]

/-- A token's row with one expert blanked out. -/
theorem blanked_row (v : FVec Ideal S1024x64 .f32) (w : IVec S1024 32) (p : Fin 1024) (i : Fin 64)
    (hw : w (ix1 p) = BitVec.ofNat 32 i.val) : row (blanked v w) p = blank (row v p) i := by
  funext e
  show Scalar.select (cmpi .eq numbers (spread w) (ix2 p e)) (Ideal.ofBits .f32 0xFF800000#32) (v (ix2 p e)) = _
  rw [isNumber_apply w p e i hw, select_ofBool, bot_word]
  rfl

/-- One where the logit is positive. -/
theorem ones_apply (v : FVec Ideal S1024x64 .f32) (p : Fin 1024) (e : Fin 64) : ones v (ix2 p e) = active (row v p) e :=
  positive_word (v (ix2 p e))

open scoped Classical in
/-- Whether no logit of the token is positive. -/
theorem idle_apply (v : FVec Ideal S1024x64 .f32) (p : Fin 1024) (e : Fin 64) :
    idle v (ix2 p e) = BitVec.ofBool (decide (Idle (row v p))) := by
  unfold idle
  refine (broadcastTo_apply _ broadcasts_S1024x1_S1024x64 (ix2 p e) (ix2 p 0 : S1024x1.Idx)
    (fun a => match a with | ⟨0, _⟩ => rfl | ⟨1, _⟩ => rfl)).trans ?_
  show Ideal.cmp .oeq (shapeCast S1024x1 _ shapeCasts_S1024_S1024x1 (ix2 p 0)) (Ideal.ofBits .f32 0x00000000#32) = _
  rw [shapeCast_apply _ shapeCasts_S1024_S1024x1 (ix2 p 0 : S1024x1.Idx) (ix1 p)
    (by simp [Shape.rowMajor_val_one, Shape.rowMajor_val_two]), Ideal.ofBits_zero_f32]
  have h : multiReduction .add [1] S1024 (ones v) 0x00000000#32 reduces_S1024x64_S1024 (.inl rfl) rfl (ix1 p)
      = ∑ k, active (row v p) k :=
    (rowSum_apply _ p).trans (Finset.sum_congr rfl fun k _ => ones_apply v p k)
  rw [h]
  unfold Idle
  exact congrArg BitVec.ofBool (decide_eq_decide.mpr Iff.rfl)

/-- The mask: a token's two rounds of the greatest logit give its two leading experts. -/
theorem pay11_apply (L : FVec Ideal S1024x64 .f32) (p : Fin 1024) (e i j : Fin 64)
    (hi : FirstMax (row L p) i) (hj : FirstMax (blank (row L p) i) j) :
    k0_pay11 L (ix2 p e) = mask (row L p) i j e := by
  classical
  have hb := best_apply L p i hi
  have hb' : best (blanked L (best L)) (ix1 p) = BitVec.ofNat 32 j.val :=
    best_apply _ p j (by rw [blanked_row L _ p i hb]; exact hj)
  rw [pay11_eq]
  show Scalar.select (idle L (ix2 p e) &&& (cmpi .eq numbers (spread (best L)) (ix2 p e)
    ||| cmpi .eq numbers (spread (best (blanked L (best L)))) (ix2 p e))) (Ideal.ofBits .f32 0x3F800000#32) (ones L (ix2 p e)) = _
  rw [idle_apply, isNumber_apply _ p e i hb, isNumber_apply _ p e j hb', ones_apply, one_word]
  have hbits : ∀ a b c : Bool, BitVec.ofBool a &&& (BitVec.ofBool b ||| BitVec.ofBool c) = BitVec.ofBool (a && (b || c)) := by
    decide
  rw [hbits, ← Bool.decide_or, ← Bool.decide_and, select_ofBool]
  rfl

/-- The rectified logits kept by the mask. -/
theorem pay12_apply (L : FVec Ideal S1024x64 .f32) (p : Fin 1024) (e i j : Fin 64)
    (hi : FirstMax (row L p) i) (hj : FirstMax (blank (row L p) i) j) :
    k0_pay12 L (Scalar.ofBits .f32 0x00000000#32) (ix2 p e) = kept (row L p) i j e := by
  classical
  show Scalar.select (BitVec.ofBool (decide (Ideal.ofBits .f32 0x00000000#32 < k0_pay11 L (ix2 p e))))
    (k0_pay10 L (Scalar.ofBits .f32 0x00000000#32) (ix2 p e)) (Ideal.ofBits .f32 0xFF800000#32) = _
  rw [select_ofBool, pay10_apply, pay11_apply L p e i j hi hj, bot_word, Ideal.ofBits_zero_f32]
  rfl

/-- The probabilities: the softmax of these. -/
theorem pay1_apply (L : FVec Ideal S1024x64 .f32) (p : Fin 1024) (e i j : Fin 64)
    (hi : FirstMax (row L p) i) (hj : FirstMax (blank (row L p) i) j) :
    k0_pay1 (k0_pay12 L (Scalar.ofBits .f32 0x00000000#32)) (k0_pay13 L (Scalar.ofBits .f32 0x00000000#32)) (ix2 p e)
      = probs (row L p) i j e := by
  have hk : row (k0_pay12 L (Scalar.ofBits .f32 0x00000000#32)) p = kept (row L p) i j :=
    funext fun k => pay12_apply L p k i j hi hj
  unfold k0_pay13
  generalize k0_pay12 L (Scalar.ofBits .f32 0x00000000#32) = v at hk ⊢
  have hx : ∀ k, exp (subf v (spread (rowMax v))) (ix2 p k) = Ideal.exp (row v p k - greatest (row v p)) := fun k => by
    rw [← rowMax_spread v p k]; rfl
  unfold probs softmax
  rw [← hk]
  have hs := (spread_apply _ p e).trans ((rowSum_apply (exp (subf v (spread (rowMax v)))) p).trans
    (Finset.sum_congr rfl fun k _ => hx k))
  rw [← hs, ← hx e]
  rfl

end Cert.Gating

end
-- ==== Proof.KernelArray.lean ====
/-
  What the kernel's four result arrays hold: at each grid point the body's four blocks are the blocks of the arrays of
  `Spec.lean`, and the eight points' blocks make up the arrays.
-/
module

public import proofs.«01_k».proof.Proof.KernelHost
public import proofs.«01_k».proof.Proof.KernelLogit
public import proofs.«01_k».proof.Proof.KernelGate

@[expose] public section

noncomputable section

namespace Cert.Gating

open Idealize.ShloMosaic Idealize.ShloMosaic.TcCoe Cert.KernelIdeal Cert.KernelIdeal.Gen

variable (m : (ℓ : Loc nD τ sig) → Buf (Elt Ideal) ℓ) (c : Dev nD)

/-! ## The body's blocks -/

/-- The block of logits the body computes at grid point `t`. -/
def logitBlock (t : Fin cfg0.N) : FVec Ideal S1024x64 .f32 :=
  k0_pay15 (iblk m c 0 t) (iblk m c 1 t) (iblk m c 2 t) (iblk m c 3 t)

/-- It holds the logits of the point's tokens. -/
theorem logitBlock_apply (t : Fin cfg0.N) (p : Fin 1024) (e : Fin 64) :
    logitBlock m c t (ix2 p e) = logits (argX m c) (argW m c) (argG m c) (token t p) e := by
  have hw : (fun k : Fin 2048 => iblk m c 1 t (ix2 e k : S64x2048.Idx)) = expertCol (argW m c) e :=
    funext fun k => block_experts m c t e k
  have hx : (fun k : Fin 2048 => iblk m c 0 t (ix2 p k : S1024x2048.Idx)) = tokenRow (argX m c) (token t p) :=
    funext fun k => block_tokens m c t p k
  have h := pay15_apply (iblk m c 0 t) (iblk m c 1 t) (iblk m c 2 t) (iblk m c 3 t) p e
    ((block_squares m c t e).trans (congrArg sumSq hw.symm))
  exact h.trans (congr (congrArg₂ logit hx hw) (block_thresholds m c t e))

/-- A token's row of it. -/
theorem logitBlock_row (t : Fin cfg0.N) (p : Fin 1024) :
    row (logitBlock m c t) p = logits (argX m c) (argW m c) (argG m c) (token t p) :=
  funext fun e => logitBlock_apply m c t p e

/-- The two rounds of the greatest logit find the token's two leading experts. -/
theorem logitBlock_rounds (t : Fin cfg0.N) (p : Fin 1024) : ∃ i j, FirstMax (row (logitBlock m c t) p) i
    ∧ FirstMax (blank (row (logitBlock m c t) p) i) j
    ∧ i = (leading (logits (argX m c) (argW m c) (argG m c) (token t p))).1
    ∧ j = (leading (logits (argX m c) (argW m c) (argG m c) (token t p))).2 := by
  rw [logitBlock_row]
  obtain ⟨i, hi⟩ := exists_firstMax (logits (argX m c) (argW m c) (argG m c) (token t p)) (by decide)
  obtain ⟨j, hj⟩ := exists_firstMax (blank (logits (argX m c) (argW m c) (argG m c) (token t p)) i) (by decide)
  have h := (topTwo_rounds _ (by decide) (fun e => logits_ne_bot _ _ _ _ e) i j hi hj).unique (leading_topTwo _)
  exact ⟨i, j, hi, hj, h.1, h.2⟩

/-- Both offsets of the body's stores are zero. -/
theorem offsets_zero : (![0, 0] : Fin 2 → Nat) = fun _ => 0 := by
  funext a
  match a with | ⟨0, _⟩ => rfl | ⟨1, _⟩ => rfl

/-- The body's block of probabilities is what it stores, computed from the block of logits. -/
theorem out4_eq (t : Fin cfg0.N) : out0_4 (iblk m c 0 t) (iblk m c 1 t) (iblk m c 2 t) (iblk m c 3 t)
    = k0_pay1 (k0_pay12 (logitBlock m c t) (Scalar.ofBits .f32 0x00000000#32))
        (k0_pay13 (logitBlock m c t) (Scalar.ofBits .f32 0x00000000#32)) := by
  unfold out0_4 logitBlock
  exact View.canon_unit_zero offsets_zero _ _
/-- The body's block of logits is what it stores, computed from the block of logits. -/
theorem out5_eq (t : Fin cfg0.N) : out0_5 (iblk m c 0 t) (iblk m c 1 t) (iblk m c 2 t) (iblk m c 3 t) = logitBlock m c t := by
  unfold out0_5 logitBlock
  exact View.canon_unit_zero offsets_zero _ _
/-- The body's block of masks is what it stores, computed from the block of logits. -/
theorem out6_eq (t : Fin cfg0.N) : out0_6 (iblk m c 0 t) (iblk m c 1 t) (iblk m c 2 t) (iblk m c 3 t)
    = k0_pay11 (logitBlock m c t) := by
  unfold out0_6 logitBlock
  exact View.canon_unit_zero offsets_zero _ _
/-- The body's block of rectified logits is what it stores, computed from the block of logits. -/
theorem out7_eq (t : Fin cfg0.N) : out0_7 (iblk m c 0 t) (iblk m c 1 t) (iblk m c 2 t) (iblk m c 3 t)
    = k0_pay10 (logitBlock m c t) (Scalar.ofBits .f32 0x00000000#32) := by
  unfold out0_7 logitBlock
  exact View.canon_unit_zero offsets_zero _ _

/-- The block of probabilities. -/
theorem out4_apply (t : Fin cfg0.N) (p : Fin 1024) (e : Fin 64) :
    out0_4 (iblk m c 0 t) (iblk m c 1 t) (iblk m c 2 t) (iblk m c 3 t) (ix2 p e)
      = probsArray (argX m c) (argW m c) (argG m c) (ix2 (token t p) e) := by
  obtain ⟨i, j, hi, hj, ei, ej⟩ := logitBlock_rounds m c t p
  rw [out4_eq, pay1_apply (logitBlock m c t) p e i j hi hj, logitBlock_row, ei, ej]
  rfl

/-- The block of logits. -/
theorem out5_apply (t : Fin cfg0.N) (p : Fin 1024) (e : Fin 64) :
    out0_5 (iblk m c 0 t) (iblk m c 1 t) (iblk m c 2 t) (iblk m c 3 t) (ix2 p e)
      = logitsArray (argX m c) (argW m c) (argG m c) (ix2 (token t p) e) := by
  rw [out5_eq, logitBlock_apply]
  rfl

/-- The block of masks. -/
theorem out6_apply (t : Fin cfg0.N) (p : Fin 1024) (e : Fin 64) :
    out0_6 (iblk m c 0 t) (iblk m c 1 t) (iblk m c 2 t) (iblk m c 3 t) (ix2 p e)
      = maskArray (argX m c) (argW m c) (argG m c) (ix2 (token t p) e) := by
  obtain ⟨i, j, hi, hj, ei, ej⟩ := logitBlock_rounds m c t p
  rw [out6_eq, pay11_apply (logitBlock m c t) p e i j hi hj, logitBlock_row, ei, ej]
  rfl

/-- The block of rectified logits. -/
theorem out7_apply (t : Fin cfg0.N) (p : Fin 1024) (e : Fin 64) :
    out0_7 (iblk m c 0 t) (iblk m c 1 t) (iblk m c 2 t) (iblk m c 3 t) (ix2 p e)
      = gatedArray (argX m c) (argW m c) (argG m c) (ix2 (token t p) e) := by
  rw [out7_eq, pay10_apply]
  exact congrArg (fun L => gated L e) (logitBlock_row m c t p)

/-! ## The arrays -/

/-- Grid point `t` writes the `t`-th block of the probabilities. -/
theorem place4 : ∀ t : Fin cfg0.N, win0_4.index t (0 : Fin 2) = t.val ∧ win0_4.index t (1 : Fin 2) = 0 :=
  (by decide +kernel : ∀ t : Fin grid0.N, _)
/-- Grid point `t` writes the `t`-th block of the logits. -/
theorem place5 : ∀ t : Fin cfg0.N, win0_5.index t (0 : Fin 2) = t.val ∧ win0_5.index t (1 : Fin 2) = 0 :=
  (by decide +kernel : ∀ t : Fin grid0.N, _)
/-- Grid point `t` writes the `t`-th block of the mask. -/
theorem place6 : ∀ t : Fin cfg0.N, win0_6.index t (0 : Fin 2) = t.val ∧ win0_6.index t (1 : Fin 2) = 0 :=
  (by decide +kernel : ∀ t : Fin grid0.N, _)
/-- Grid point `t` writes the `t`-th block of the rectified logits. -/
theorem place7 : ∀ t : Fin cfg0.N, win0_7.index t (0 : Fin 2) = t.val ∧ win0_7.index t (1 : Fin 2) = 0 :=
  (by decide +kernel : ∀ t : Fin grid0.N, _)

/-- An entry of a block of a result, in the array. -/
def place (t : Fin cfg0.N) (i : S1024x64.Idx) : S8192x64.Idx := ix2 (token t (i 0)) (i 1)

/-- An entry placed by row block `t` is a token of the point and an expert. -/
theorem place_eq (t : Fin cfg0.N) (i : S1024x64.Idx) (a b : Nat) (ha : a = t.val) (hb : b = 0) (k : S8192x64.Idx)
    (h0 : (k 0).val = a * 1024 + 1 * (i 0).val) (h1 : (k 1).val = b * 64 + 1 * (i 1).val) : k = place t i := by
  subst ha hb
  funext d; apply Fin.ext
  match d with
  | ⟨0, _⟩ => exact h0.trans (by show t.val * 1024 + 1 * (i 0).val = t.val * 1024 + (i 0).val; omega)
  | ⟨1, _⟩ => exact h1.trans (by show 0 * 64 + 1 * (i 1).val = (i 1).val; omega)

/-- An entry of that block is the point's token and an expert. -/
theorem emb4 (t : Fin cfg0.N) (i : S1024x64.Idx) : ((cfg0.win 4).blk t).view.emb i = place t i :=
  place_eq t i _ _ (place4 t).1 (place4 t).2 _ rfl rfl
/-- An entry of that block is the point's token and an expert. -/
theorem emb5 (t : Fin cfg0.N) (i : S1024x64.Idx) : ((cfg0.win 5).blk t).view.emb i = place t i :=
  place_eq t i _ _ (place5 t).1 (place5 t).2 _ rfl rfl
/-- An entry of that block is the point's token and an expert. -/
theorem emb6 (t : Fin cfg0.N) (i : S1024x64.Idx) : ((cfg0.win 6).blk t).view.emb i = place t i :=
  place_eq t i _ _ (place6 t).1 (place6 t).2 _ rfl rfl
/-- An entry of that block is the point's token and an expert. -/
theorem emb7 (t : Fin cfg0.N) (i : S1024x64.Idx) : ((cfg0.win 7).blk t).view.emb i = place t i :=
  place_eq t i _ _ (place7 t).1 (place7 t).2 _ rfl rfl

/-- Every entry of an array is in one of the blocks. -/
theorem place_surjective (k : S8192x64.Idx) : ∃ t i, place t i = k := by
  have hk : (k 0).val < 8192 := (k 0).isLt
  refine ⟨⟨(k 0).val / 1024, lt_of_lt_of_eq (by omega : (k 0).val / 1024 < 8) N_0.symm⟩,
    ix2 (⟨(k 0).val % 1024, by omega⟩ : Fin 1024) (k 1), ?_⟩
  funext d; apply Fin.ext
  match d with
  | ⟨0, _⟩ => show (k 0).val / 1024 * 1024 + (k 0).val % 1024 = (k 0).val; omega
  | ⟨1, _⟩ => rfl

/-- The probabilities after the run. -/
theorem array4 : (dats m 0 c).arrAt 4 cfg0.N = probsArray (argX m c) (argW m c) (argG m c) := by
  refine (dats m 0 c).arrAt_eq_of_cover 4 _ (fun t _ => ?_) fun k => ?_
  · rw [Value.flushed4]
    funext i
    show out0_4 (iblk m c 0 t) (iblk m c 1 t) (iblk m c 2 t) (iblk m c 3 t) i
      = probsArray (argX m c) (argW m c) (argG m c) (((cfg0.win 4).blk t).view.emb i)
    rw [emb4]
    exact (congrArg _ (ValueIdx.eq_ix2 i)).trans (out4_apply m c t (i 0) (i 1))
  · obtain ⟨t, i, hi⟩ := place_surjective k
    exact ⟨t, flush0_4 t, by rw [← hi, ← emb4]; exact ((cfg0.win 4).blk t).view.emb_mem_set i⟩

/-- The logits after the run. -/
theorem array5 : (dats m 0 c).arrAt 5 cfg0.N = logitsArray (argX m c) (argW m c) (argG m c) := by
  refine (dats m 0 c).arrAt_eq_of_cover 5 _ (fun t _ => ?_) fun k => ?_
  · rw [Value.flushed5]
    funext i
    show out0_5 (iblk m c 0 t) (iblk m c 1 t) (iblk m c 2 t) (iblk m c 3 t) i
      = logitsArray (argX m c) (argW m c) (argG m c) (((cfg0.win 5).blk t).view.emb i)
    rw [emb5]
    exact (congrArg _ (ValueIdx.eq_ix2 i)).trans (out5_apply m c t (i 0) (i 1))
  · obtain ⟨t, i, hi⟩ := place_surjective k
    exact ⟨t, flush0_5 t, by rw [← hi, ← emb5]; exact ((cfg0.win 5).blk t).view.emb_mem_set i⟩

/-- The mask after the run. -/
theorem array6 : (dats m 0 c).arrAt 6 cfg0.N = maskArray (argX m c) (argW m c) (argG m c) := by
  refine (dats m 0 c).arrAt_eq_of_cover 6 _ (fun t _ => ?_) fun k => ?_
  · rw [Value.flushed6]
    funext i
    show out0_6 (iblk m c 0 t) (iblk m c 1 t) (iblk m c 2 t) (iblk m c 3 t) i
      = maskArray (argX m c) (argW m c) (argG m c) (((cfg0.win 6).blk t).view.emb i)
    rw [emb6]
    exact (congrArg _ (ValueIdx.eq_ix2 i)).trans (out6_apply m c t (i 0) (i 1))
  · obtain ⟨t, i, hi⟩ := place_surjective k
    exact ⟨t, flush0_6 t, by rw [← hi, ← emb6]; exact ((cfg0.win 6).blk t).view.emb_mem_set i⟩

/-- The rectified logits after the run. -/
theorem array7 : (dats m 0 c).arrAt 7 cfg0.N = gatedArray (argX m c) (argW m c) (argG m c) := by
  refine (dats m 0 c).arrAt_eq_of_cover 7 _ (fun t _ => ?_) fun k => ?_
  · rw [Value.flushed7]
    funext i
    show out0_7 (iblk m c 0 t) (iblk m c 1 t) (iblk m c 2 t) (iblk m c 3 t) i
      = gatedArray (argX m c) (argW m c) (argG m c) (((cfg0.win 7).blk t).view.emb i)
    rw [emb7]
    exact (congrArg _ (ValueIdx.eq_ix2 i)).trans (out7_apply m c t (i 0) (i 1))
  · obtain ⟨t, i, hi⟩ := place_surjective k
    exact ⟨t, flush0_7 t, by rw [← hi, ← emb7]; exact ((cfg0.win 7).blk t).view.emb_mem_set i⟩

end Cert.Gating

end
-- ==== Proof.RefLogit.lean ====
/-
  The reference's logits and rectified logits, read at one token and one expert.
-/
module

public import proofs.«01_k».proof.Proof.Spec
public import proofs.«01_k».proof.Proof.Gen.ReferenceIdeal.Read

@[expose] public section

noncomputable section

namespace Cert.Gating

open Idealize.ShloMosaic Cert.ReferenceIdeal Cert.ReferenceIdeal.Gen Cert.ReferenceIdeal.Read

variable (x : XShape.Idx → EReal) (w : WShape.Idx → EReal) (g : GShape.Idx → EReal)

/-- The token's norm, kept above `eps`. -/
theorem ref_tokenNorm (r : Fin 8192) :
    val_main_v3 (F := Ideal) x (ix2 r 0) = max (Ideal.sqrt (sumSq (tokenRow x r))) eps := by
  have hs : val_main_call0_v2 (F := Ideal) x (ix2 r 0) = sumSq (tokenRow x r) := by
    rw [val_main_call0_v2_apply, val_main_call0_v1_apply]
    show Ideal.ofBits .f32 0x00000000#32 + _ = _
    rw [Ideal.ofBits_zero_f32, zero_add]
    refine Finset.sum_congr rfl fun k _ => ?_
    have h0 : val_main_v0 (F := Ideal) x (idx_main_call0_v1 (idx_main_call0_v2 (ix2 r 0)) k) = tokenRow x r k := by
      refine Eq.trans (congrArg (val_main_v0 (F := Ideal) x) (?_ : _ = (ix2 r k : S8192x2048.Idx))) (cast_row x _ r k)
      funext a
      match a with | ⟨0, _⟩ => rfl | ⟨1, _⟩ => rfl
    exact congrArg₂ (fun a b : EReal => a * b) h0 h0
  rw [val_main_v3_apply, val_main_v1_apply, hs, val_main_v2_apply]
  rfl

/-- The expert's norm, kept above `eps`. -/
theorem ref_expertNorm (e : Fin 64) :
    val_main_v8 (F := Ideal) w (ix2 0 e) = max (Ideal.sqrt (sumSq (expertCol w e))) eps := by
  have hs : val_main_call1_v2 (F := Ideal) w (ix2 0 e) = sumSq (expertCol w e) := by
    rw [val_main_call1_v2_apply, val_main_call1_v1_apply]
    show Ideal.ofBits .f32 0x00000000#32 + _ = _
    rw [Ideal.ofBits_zero_f32, zero_add]
    refine Finset.sum_congr rfl fun k _ => ?_
    have h0 : w (idx_main_call1_v1 (idx_main_call1_v2 (ix2 0 e)) k) = expertCol w e k := by
      refine congrArg w (?_ : _ = (ix2 k e : S2048x64.Idx))
      funext a
      match a with | ⟨0, _⟩ => rfl | ⟨1, _⟩ => rfl
    exact congrArg₂ (fun a b : EReal => a * b) h0 h0
  rw [val_main_v8_apply, val_main_v6_apply, hs, val_main_v7_apply]
  rfl

/-- The sigmoid of the expert's threshold. -/
theorem ref_sigmoid (e : Fin 64) : val_main_v17 (F := Ideal) g (ix1 e) = sigmoid (g (ix1 e)) := by
  rw [val_main_v17_apply, val_main_v15_apply]
  show Ideal.div (Ideal.ofBits .f32 0x3F800000#32) (Ideal.ofBits .f32 0x3F800000#32 + Ideal.exp (-(g (ix1 e)))) = _
  rw [one_word]
  rfl

/-- The reference's logits. -/
theorem ref_logits (r : Fin 8192) (e : Fin 64) : val_main_v20 (F := Ideal) x w g (ix2 r e) = logits x w g r e := by
  rw [val_main_v20_apply, val_main_v11_apply]
  unfold logits logit
  refine congrArg₂ (fun a b : EReal => a - b) (Finset.sum_congr rfl fun k _ => congrArg₂ (fun a b : EReal => a * b) ?_ ?_) ?_
  · have hl : lidx_main_v11 (ix2 r e) k = (ix2 r k : S8192x2048.Idx) := by
      funext a
      match a with | ⟨0, _⟩ => rfl | ⟨1, _⟩ => rfl
    have hn : idx_main_v4 (ix2 r k) = (ix2 r 0 : S8192x1.Idx) := by
      funext a
      match a with | ⟨0, _⟩ => rfl | ⟨1, _⟩ => rfl
    rw [hl, val_main_v5_apply, val_main_v4_apply, hn, ref_tokenNorm]
    exact congrArg (fun a => Ideal.div a _) (cast_row x _ r k)
  · have hr : ridx_main_v11 (ix2 r e) k = (ix2 k e : S2048x64.Idx) := by
      funext a
      match a with | ⟨0, _⟩ => rfl | ⟨1, _⟩ => rfl
    have hn : idx_main_v9 (ix2 k e) = (ix2 0 e : S1x64.Idx) := by
      funext a
      match a with | ⟨0, _⟩ => rfl | ⟨1, _⟩ => rfl
    rw [hr, val_main_v10_apply, val_main_v9_apply, hn, ref_expertNorm]
    rfl
  · rw [val_main_v19_apply, val_main_v18_apply]
    refine Eq.trans (congrArg (val_main_v17 (F := Ideal) g) (?_ : _ = (ix1 e : S64.Idx))) (ref_sigmoid g e)
    funext a
    match a with | ⟨0, _⟩ => rfl

/-- The reference's rectified logits. -/
theorem ref_gated (r : Fin 8192) (e : Fin 64) : val_main_v21 (F := Ideal) x w g (ix2 r e) = gated (logits x w g r) e := by
  rw [val_main_v21_apply, ref_logits, val_main_call2_v0_apply]
  show max _ (Ideal.ofBits .f32 0x00000000#32) = _
  rw [Ideal.ofBits_zero_f32]
  rfl

end Cert.Gating

end
-- ==== Proof.RefTop.lean ====
/-
  The reference's two leading experts and the mask they fall back on, read at one token and one expert: the sorted
  positions of the token's logits, and the array holding a one at each of them.
-/
module

public import proofs.«01_k».proof.Proof.RefLogit
public import proofs.«01_k».proof.Proof.Top2
public import Idealize.ShloMosaic.Lib.Routing.OpsSet

@[expose] public section

set_option maxRecDepth 16384

noncomputable section

namespace Cert.Gating

open Idealize.ShloMosaic Cert.ReferenceIdeal Cert.ReferenceIdeal.Gen Cert.ReferenceIdeal.Read

/-! ## The two leading experts -/

/-- Position `k` along an entry's row. -/
theorem along_row (r : Fin 8192) (q k : Fin 64) : Shape.Idx.along (s := S8192x64) (ix2 r q) 1 k = ix2 r k := by
  funext a
  match a with
  | ⟨0, _⟩ => rfl
  | ⟨1, _⟩ => rfl

/-- The second array of a sort of two: at an entry's row, taken from the sorted position. -/
theorem sort2_second {s : Shape} {α β : Type} (d : Fin s.rank) (cmp : α × β → α × β → BitVec 1) (x : s.Idx → α) (y : s.Idx → β)
    (j : s.Idx) : (Host.sort2 s d.val cmp x y).2 j
      = y (j.along d (sortedFrom (fun a b => cmp (x (j.along d a), y (j.along d a)) (x (j.along d b), y (j.along d b)) == 1#1) (j d))) := by
  unfold Host.sort2
  rw [dif_pos d.isLt]

/-- The positions of the greatest entries: the first ones of the sorted positions. -/
theorem topK_second {s t : Shape} {α : Type} (d : Fin s.rank) (gt : α → α → BitVec 1) (x : s.Idx → α) (h : s.Slices (fun _ => 0) t)
    (j : t.Idx) (k : s.Idx) (hk : ∀ a : Fin s.rank, (k a).val = (j (a.cast h.1.symm)).val) :
    (Host.topK t d.val gt x h).2 j
      = BitVec.ofNat 32 ((k.along d (sortedFrom (fun a b => gt (x (k.along d a)) (x (k.along d b)) == 1#1) (k d))) d).val := by
  unfold Host.topK
  refine (extractStridedSlice_apply _ _ h j k fun a => (hk a).trans (Nat.zero_add _).symm).trans ?_
  refine (sort2_second d _ _ _ k).trans ?_
  rw [dif_pos d.isLt]
  rfl

/-- A comparison's word is a one when the comparison holds. -/
theorem greater_word (a b : EReal) : (FloatOps.cmpfTotal (F := Ideal) (φ := .f32) .gt a b == 1#1) = decide (b < a) := by
  show (BitVec.ofBool (decide (b < a)) == 1#1) = _
  by_cases hlt : b < a <;> simp [hlt]

/-- The positions of a matrix's two greatest entries in row `r`: the first two of the stable descending sort. -/
theorem top_apply (L : S8192x64.Idx → EReal) (h) (r : Fin 8192) (q : Fin 2) :
    (Host.topK (s := S8192x64) S8192x2 1 (FloatOps.cmpfTotal (F := Ideal) (φ := .f32) .gt) L h).2 (ix2 r q)
      = BitVec.ofNat 32 (sortedFrom (fun k k' => decide (L (ix2 r k') < L (ix2 r k))) (⟨q.val, by omega⟩ : Fin 64)).val := by
  refine (topK_second (s := S8192x64) 1 _ L h (ix2 r q) (ix2 r (⟨q.val, by omega⟩ : Fin 64))
    (fun a => match a with | ⟨0, _⟩ => rfl | ⟨1, _⟩ => rfl)).trans ?_
  have hf : (fun k k' : Fin 64 => FloatOps.cmpfTotal (F := Ideal) (φ := .f32) .gt
      (L (Shape.Idx.along (s := S8192x64) (ix2 r (⟨q.val, by omega⟩ : Fin 64)) 1 k))
      (L (Shape.Idx.along (s := S8192x64) (ix2 r (⟨q.val, by omega⟩ : Fin 64)) 1 k')) == 1#1)
      = fun k k' => decide (L (ix2 r k') < L (ix2 r k)) := by
    funext k k'
    rw [greater_word, along_row, along_row]
  refine congrArg (BitVec.ofNat 32) (congrArg Fin.val ((congrFun (along_row r _ _) 1).trans ?_))
  exact congrFun (congrArg sortedFrom hf) _

variable (x : XShape.Idx → EReal) (w : WShape.Idx → EReal) (g : GShape.Idx → EReal)

/-- The reference's indices are the two leading experts of the token. -/
theorem ref_indices (r : Fin 8192) (i j : Fin 64) (h : TopTwo (logits x w g r) i j) :
    val_main_indices (F := Ideal) x w g (ix2 r 0) = BitVec.ofNat 32 i.val
      ∧ val_main_indices (F := Ideal) x w g (ix2 r 1) = BitVec.ofNat 32 j.val := by
  have hL : (fun e => val_main_v20 (F := Ideal) x w g (ix2 r e)) = logits x w g r := funext fun e => ref_logits x w g r e
  have hs := topTwo_sorted (fun e => val_main_v20 (F := Ideal) x w g (ix2 r e)) (by decide)
  have hu := TopTwo.unique (hL ▸ h : TopTwo (fun e => val_main_v20 (F := Ideal) x w g (ix2 r e)) i j) hs
  unfold val_main_indices
  rw [hu.1, hu.2]
  exact ⟨top_apply _ _ r 0, top_apply _ _ r 1⟩

/-! ## The pairs the scatter writes at -/

/-- A small number is not negative as a signed word. -/
theorem small_word (n : ℕ) (h : n < 2 ^ 31) : (BitVec.ofNat 32 n).toNat < 2 ^ (32 - 1) := by
  rw [BitVec.toNat_ofNat, Nat.mod_eq_of_lt (by omega)]
  exact h

/-- The first of a pair is the token. -/
theorem ref_pair_token (r : Fin 8192) (q : Fin 2) :
    val_main_v44 (F := Ideal) x w g (ix3 r q (0 : Fin 2)) = BitVec.ofNat 32 r.val := by
  unfold val_main_v44
  refine (concatenate_pair_apply_left (t := S8192x2x2) 2 _ _ concatenates_S8192x2x1_S8192x2x1_S8192x2x2_d2
    (ix3 r q (0 : Fin 2)) rfl (ix3 r q (0 : Fin 1) : S8192x2x1.Idx)
    (fun b => match b with | ⟨0, _⟩ => rfl | ⟨1, _⟩ => rfl | ⟨2, _⟩ => rfl)).trans ?_
  rw [val_main_v42_apply, val_main_v41_apply, val_main_v35_apply, val_main_v32_apply, val_main_v29_apply, val_main_v28_apply]
  exact Routing.wrap_of_lt (BitVec.ofNat 32 r.val) _ (small_word _ (by omega))

/-- The second is one of the two leading experts. -/
theorem ref_pair_expert (r : Fin 8192) (q : Fin 2) (n : Fin 64)
    (hn : val_main_indices (F := Ideal) x w g (ix2 r q) = BitVec.ofNat 32 n.val) :
    val_main_v44 (F := Ideal) x w g (ix3 r q (1 : Fin 2)) = BitVec.ofNat 32 n.val := by
  unfold val_main_v44
  refine (concatenate_pair_apply_right (t := S8192x2x2) 2 _ _ concatenates_S8192x2x1_S8192x2x1_S8192x2x2_d2
    (ix3 r q (1 : Fin 2)) rfl rfl (ix3 r q (0 : Fin 1) : S8192x2x1.Idx)
    (fun b hb => match b with | ⟨0, _⟩ => rfl | ⟨1, _⟩ => rfl | ⟨2, _⟩ => absurd rfl hb) rfl).trans ?_
  have hi : idx_main_v43 (ix3 r q (0 : Fin 1)) = (ix2 r q : S8192x2.Idx) := by
    funext a
    match a with | ⟨0, _⟩ => rfl | ⟨1, _⟩ => rfl
  rw [val_main_v43_apply, hi, val_main_v40_apply, val_main_v37_apply, hn]
  exact Routing.wrap_of_lt (BitVec.ofNat 32 n.val) _ (small_word _ (by omega))

/-! ## The array of ones at the leading experts -/

/-- Where the update of a token's `q`-th leading expert lands. -/
theorem ref_lands (r' : Fin 8192) (q : Fin 2) (n : Fin 64)
    (hn : val_main_indices (F := Ideal) x w g (ix2 r' q) = BitVec.ofNat 32 n.val) (r : Fin 8192) (e : Fin 64) :
    scatter_S8192x64_S8192x2x2_S8192x2_n_01_01_2.resultIdx? (ix2 r' q) (val_main_v44 (F := Ideal) x w g) = some (ix2 r e)
      ↔ r' = r ∧ n = e := by
  have key := Routing.scatter_lands2 scatter_S8192x64_S8192x2x2_S8192x2_n_01_01_2 rfl rfl rfl
    (val_main_v44 (F := Ideal) x w g) r' q r e
  refine Iff.trans key ?_
  have h0 : (val_main_v44 (F := Ideal) x w g (ix3 r' q (0 : Fin 2))).toInt = r'.val := by
    rw [ref_pair_token]
    exact StableHlo.Predicate.toInt_ofNat_small _ (by omega)
  have h1 : (val_main_v44 (F := Ideal) x w g (ix3 r' q (1 : Fin 2))).toInt = n.val := by
    rw [ref_pair_expert x w g r' q n hn]
    exact StableHlo.Predicate.toInt_ofNat_small _ (by omega)
  refine Iff.trans (and_congr (Eq.congr_left h0) (Eq.congr_left h1)) ?_
  rw [Int.natCast_inj, Int.natCast_inj, Fin.val_inj, Fin.val_inj]

/-- Every update is a one. -/
theorem ref_update (k : S8192x2.Idx) : val_main_v45 (F := Ideal) k = 1 := by
  rw [val_main_v45_apply]
  exact one_word

/-- An index of the updates is a token and one of two. -/
theorem idx_pair (k : S8192x2.Idx) : ∃ (r : Fin 8192) (q : Fin 2), k = ix2 r q :=
  ⟨k 0, k 1, ValueIdx.eq_ix2 k⟩

/-- One of a token's two updates is for the first leading expert, the other for the second. -/
theorem ref_index_cases (r : Fin 8192) (q : Fin 2) (i j : Fin 64) (h : TopTwo (logits x w g r) i j) :
    ∃ n, (n = i ∨ n = j) ∧ val_main_indices (F := Ideal) x w g (ix2 r q) = BitVec.ofNat 32 n.val := by
  obtain ⟨hi, hj⟩ := ref_indices x w g r i j h
  match q with
  | 0 => exact ⟨i, Or.inl rfl, hi⟩
  | 1 => exact ⟨j, Or.inr rfl, hj⟩

/-- No update lands at an expert that is not a leading one. -/
theorem ref_misses (r : Fin 8192) (e i j : Fin 64) (h : TopTwo (logits x w g r) i j) (he : ¬(e = i ∨ e = j)) (r' : Fin 8192) (q : Fin 2) :
    scatter_S8192x64_S8192x2x2_S8192x2_n_01_01_2.resultIdx? (ix2 r' q) (val_main_v44 (F := Ideal) x w g) ≠ some (ix2 r e) := by
  intro hk
  obtain ⟨n', -, hn'⟩ := ref_index_cases x w g r' q _ _ (topTwo_sorted (logits x w g r') (by decide))
  have hr := ((ref_lands x w g r' q n' hn' r e).mp hk).1
  subst hr
  obtain ⟨n, hn, hn'⟩ := ref_index_cases x w g r' q i j h
  have := ((ref_lands x w g r' q n hn' r' e).mp hk).2
  exact he (this ▸ hn)

open scoped Classical in
/-- The scattered array: one at the token's two leading experts, zero elsewhere. -/
theorem ref_scatter (r : Fin 8192) (e i j : Fin 64) (h : TopTwo (logits x w g r) i j) :
    val_main_v46 (F := Ideal) x w g (ix2 r e) = if e = i ∨ e = j then 1 else 0 := by
  obtain ⟨hi, hj⟩ := ref_indices x w g r i j h
  unfold val_main_v46
  split
  · rename_i he
    rcases he with he | he
    · exact Routing.scatter_set_hit _ _ _ _ _ _ (fun k _ => ref_update k) (ix2 r 0)
        ((ref_lands x w g r 0 i hi r e).mpr ⟨rfl, he.symm⟩)
    · exact Routing.scatter_set_hit _ _ _ _ _ _ (fun k _ => ref_update k) (ix2 r 1)
        ((ref_lands x w g r 1 j hj r e).mpr ⟨rfl, he.symm⟩)
  · rename_i he
    refine (Routing.scatter_set_miss _ _ _ _ _ fun k hk => ?_).trans ?_
    · obtain ⟨r', q, hkq⟩ := idx_pair k
      subst hkq
      exact ref_misses x w g r e i j h he r' q hk
    · rw [val_main_v30_apply]
      exact Ideal.ofBits_zero_f32

end Cert.Gating

end
-- ==== Proof.RefValue.lean ====
/-
  The reference's mask and probabilities, read at one token and one expert: the mask and the softmax of the token's
  logits, the two leading experts being any `i` and `j` that are the leading two.
-/
module

public import proofs.«01_k».proof.Proof.RefTop
public import proofs.«01_k».proof.Proof.Gate
public import Idealize.ShloMosaic.Lib.KernelVsHost

@[expose] public section

noncomputable section

namespace Cert.Gating

open Idealize.ShloMosaic Cert.ReferenceIdeal Cert.ReferenceIdeal.Gen Cert.ReferenceIdeal.Read

variable (x : XShape.Idx → EReal) (w : WShape.Idx → EReal) (g : GShape.Idx → EReal)

/-! ## The mask -/

/-- One where the logit is positive: the rectified logit is positive just when the logit is. -/
theorem ref_active (r : Fin 8192) (e : Fin 64) : val_main_v24 (F := Ideal) x w g (ix2 r e) = active (logits x w g r) e := by
  rw [val_main_v24_apply, val_main_v23_apply, ref_gated, val_main_v22_apply]
  show (((BitVec.ofBool (decide (Ideal.ofBits .f32 0x00000000#32 < gated (logits x w g r) e))).toNat : ℝ) : EReal) = _
  rw [Ideal.ofBits_zero_f32]
  unfold active gated
  by_cases h : 0 < logits x w g r e <;> simp [h]

open scoped Classical in
/-- Whether no logit of the token is positive, on every expert. -/
theorem ref_idle (r : Fin 8192) (e : Fin 64) :
    val_main_v50 (F := Ideal) x w g (ix2 r e) = BitVec.ofBool (decide (Idle (logits x w g r))) := by
  have h1 : idx_main_v50 (ix2 r e) = (ix2 r 0 : S8192x1.Idx) := by
    funext a
    match a with | ⟨0, _⟩ => rfl | ⟨1, _⟩ => rfl
  have h2 : idx_main_v47 (ix2 r 0) = (ix1 r : S8192.Idx) := by
    funext a
    match a with | ⟨0, _⟩ => rfl
  have h3 : ∀ k, idx_main_v25 (ix1 r) k = (ix2 r k : S8192x64.Idx) := fun k => by
    funext a
    match a with | ⟨0, _⟩ => rfl | ⟨1, _⟩ => rfl
  have hs : val_main_v25 (F := Ideal) x w g (ix1 r) = ∑ k, active (logits x w g r) k := by
    rw [val_main_v25_apply, val_main_cst_4_apply]
    refine (congrArg₂ (fun a b : EReal => a + b) Ideal.ofBits_zero_f32
      (Finset.sum_congr rfl fun k _ => (congrArg _ (h3 k)).trans (ref_active x w g r k))).trans (zero_add _)
  rw [val_main_v50_apply, h1, val_main_v47_apply, h2, val_main_v27_apply, hs, val_main_v26_apply]
  show BitVec.ofBool (decide (_ = Ideal.ofBits .f32 0x00000000#32)) = _
  rw [Ideal.ofBits_zero_f32]
  unfold Idle
  exact congrArg BitVec.ofBool (decide_eq_decide.mpr Iff.rfl)

open scoped Classical in
/-- Whether the expert is one of the token's two leading ones. -/
theorem ref_leading (r : Fin 8192) (e i j : Fin 64) (h : TopTwo (logits x w g r) i j) :
    val_main_v49 (F := Ideal) x w g (ix2 r e) = BitVec.ofBool (decide (e = i ∨ e = j)) := by
  rw [val_main_v49_apply, ref_scatter x w g r e i j h, val_main_v48_apply,
    show val_main_cst_11 (F := Ideal) (idx_main_v48 (ix2 r e)) = (0 : EReal) from Ideal.ofBits_zero_f32]
  show BitVec.ofBool (decide ((0 : EReal) < _)) = _
  by_cases he : e = i ∨ e = j <;> simp [he]

/-- The reference's mask. -/
theorem ref_mask (r : Fin 8192) (e i j : Fin 64) (h : TopTwo (logits x w g r) i j) :
    val_main_v52 (F := Ideal) x w g (ix2 r e) = mask (logits x w g r) i j e := by
  classical
  rw [val_main_v52_apply, val_main_v51_apply, ref_idle, ref_leading x w g r e i j h, ref_active, val_main_call3_v0_apply,
    val_main_cst_12_apply]
  show Scalar.select (_ &&& _) (Ideal.ofBits .f32 0x3F800000#32) _ = _
  have hbits : ∀ a b : Bool, BitVec.ofBool a &&& BitVec.ofBool b = BitVec.ofBool (a && b) := by decide
  rw [hbits, ← Bool.decide_and, select_ofBool, one_word]
  unfold mask
  exact if_congr Iff.rfl rfl rfl

/-! ## The probabilities -/

/-- The rectified logits kept by the mask. -/
theorem ref_kept (r : Fin 8192) (e i j : Fin 64) (h : TopTwo (logits x w g r) i j) :
    val_main_v55 (F := Ideal) x w g (ix2 r e) = kept (logits x w g r) i j e := by
  classical
  rw [val_main_v55_apply, val_main_v54_apply, ref_mask x w g r e i j h, ref_gated, val_main_v53_apply, val_main_call4_v0_apply,
    show val_main_cst_13 (F := Ideal) (idx_main_v53 (ix2 r e)) = (0 : EReal) from Ideal.ofBits_zero_f32,
    show val_main_cst_14 (F := Ideal) (idx_main_call4_v0 (ix2 r e)) = (⊥ : EReal) from bot_word]
  show Scalar.select (BitVec.ofBool (decide ((0 : EReal) < _))) _ _ = _
  rw [select_ofBool]
  unfold kept
  exact if_congr Iff.rfl rfl rfl

/-- A matrix's greatest entry in a row. -/
theorem rowGreatest_apply (v : FVec Ideal S8192x64 .f32) (r : Fin 8192) :
    Host.reduce FloatOps.maximumf v (constant (F := Ideal) S_ .f32 0xFF800000#32) reducesTo_S8192x64_S8192_d1 h_S_ (ix1 r)
      = greatest fun k => v (ix2 r k) := by
  have hr : S8192x64.Reduces [1] S8192 := by decide
  refine (congrFun (hostReduce_maximumf_eq_multiReduction v _ reducesTo_S8192x64_S8192_d1 h_S_ hr (.inl rfl) rfl) _).trans ?_
  refine (Ideal.multiReduction_maximumf_single v _ hr (.inl rfl) rfl (ix1 r)).trans ?_
  unfold greatest
  refine congrArg₂ (fun (b : EReal) (f : Fin 64 → EReal) => Finset.univ.fold max b f) bot_word ?_
  funext k
  refine congrArg v ?_
  funext a
  match a with | ⟨0, _⟩ => rfl | ⟨1, _⟩ => rfl

/-- The greatest of these, on every expert. -/
theorem ref_greatest (r : Fin 8192) (e i j : Fin 64) (h : TopTwo (logits x w g r) i j) :
    val_main_v60 (F := Ideal) x w g (ix2 r e) = greatest (kept (logits x w g r) i j) := by
  have h1 : idx_main_v60 (ix2 r e) = (ix2 r 0 : S8192x1.Idx) := by
    funext a
    match a with | ⟨0, _⟩ => rfl | ⟨1, _⟩ => rfl
  have h2 : idx_main_v59 (ix2 r 0) = (ix1 r : S8192.Idx) := by
    funext a
    match a with | ⟨0, _⟩ => rfl
  have hm : val_main_v56 (F := Ideal) x w g (ix1 r) = greatest (kept (logits x w g r) i j) :=
    (rowGreatest_apply _ r).trans (congrArg greatest (funext fun k => ref_kept x w g r k i j h))
  rw [val_main_v60_apply, h1, val_main_v59_apply, h2, val_main_v58_apply, hm, val_main_v57_apply]
  show max (Ideal.ofBits .f32 0xFF800000#32) _ = _
  rw [bot_word]
  exact max_eq_right bot_le

/-- The exponential of each less the greatest. -/
theorem ref_exp (r : Fin 8192) (e i j : Fin 64) (h : TopTwo (logits x w g r) i j) :
    val_main_v62 (F := Ideal) x w g (ix2 r e)
      = Ideal.exp (kept (logits x w g r) i j e - greatest (kept (logits x w g r) i j)) := by
  rw [val_main_v62_apply, val_main_v61_apply, ref_kept x w g r e i j h, ref_greatest x w g r e i j h]
  rfl

/-- The sum of these exponentials, on every expert. -/
theorem ref_expSum (r : Fin 8192) (e i j : Fin 64) (h : TopTwo (logits x w g r) i j) :
    val_main_v65 (F := Ideal) x w g (ix2 r e)
      = ∑ k, Ideal.exp (kept (logits x w g r) i j k - greatest (kept (logits x w g r) i j)) := by
  have h1 : idx_main_v65 (ix2 r e) = (ix2 r 0 : S8192x1.Idx) := by
    funext a
    match a with | ⟨0, _⟩ => rfl | ⟨1, _⟩ => rfl
  have h2 : idx_main_v64 (ix2 r 0) = (ix1 r : S8192.Idx) := by
    funext a
    match a with | ⟨0, _⟩ => rfl
  have h3 : ∀ k, idx_main_v63 (ix1 r) k = (ix2 r k : S8192x64.Idx) := fun k => by
    funext a
    match a with | ⟨0, _⟩ => rfl | ⟨1, _⟩ => rfl
  rw [val_main_v65_apply, h1, val_main_v64_apply, h2, val_main_v63_apply, val_main_cst_17_apply]
  exact (congrArg₂ (fun a b : EReal => a + b) Ideal.ofBits_zero_f32
    (Finset.sum_congr rfl fun k _ => (congrArg _ (h3 k)).trans (ref_exp x w g r k i j h))).trans (zero_add _)

/-- The reference's probabilities. -/
theorem ref_probs (r : Fin 8192) (e i j : Fin 64) (h : TopTwo (logits x w g r) i j) :
    val_main_v66 (F := Ideal) x w g (ix2 r e) = probs (logits x w g r) i j e := by
  rw [val_main_v66_apply, ref_exp x w g r e i j h, ref_expSum x w g r e i j h]
  rfl

end Cert.Gating

end
-- ==== Proof.RefArray.lean ====
/-
  What the reference's four results are: the arrays of `Spec.lean`.
-/
module

public import proofs.«01_k».proof.Proof.RefValue

@[expose] public section

noncomputable section

namespace Cert.Gating

open Idealize.ShloMosaic Cert.ReferenceIdeal Cert.ReferenceIdeal.Gen Cert.ReferenceIdeal.Read

variable (x : XShape.Idx → EReal) (w : WShape.Idx → EReal) (g : GShape.Idx → EReal)

/-- An array is known by its entries at a token and an expert. -/
theorem array_ext (a b : RShape.Idx → EReal) (h : ∀ (r : Fin 8192) (e : Fin 64), a (ix2 r e) = b (ix2 r e)) : a = b :=
  funext fun i => (congrArg a (ValueIdx.eq_ix2 i)).trans ((h (i 0) (i 1)).trans (congrArg b (ValueIdx.eq_ix2 i)).symm)

/-- The reference's probabilities, as an array. -/
theorem ref_probsArray : val_main_v66 (F := Ideal) x w g = probsArray x w g :=
  array_ext _ _ fun r e => ref_probs x w g r e _ _ (leading_topTwo (logits x w g r))

/-- The reference's logits, as an array. -/
theorem ref_logitsArray : val_main_v20 (F := Ideal) x w g = logitsArray x w g :=
  array_ext _ _ fun r e => ref_logits x w g r e

/-- The reference's mask, as an array. -/
theorem ref_maskArray : val_main_v52 (F := Ideal) x w g = maskArray x w g :=
  array_ext _ _ fun r e => ref_mask x w g r e _ _ (leading_topTwo (logits x w g r))

/-- The reference's rectified logits, as an array. -/
theorem ref_gatedArray : val_main_v21 (F := Ideal) x w g = gatedArray x w g :=
  array_ext _ _ fun r e => ref_gated x w g r e

end Cert.Gating

end
-- ==== Proof.lean ====
/-
  The claims: the kernel, at words and over the extended reals, and the reference each run to the end, leave their
  arguments as they were and every semaphore at zero; and over the extended reals the kernel's four results are the
  reference's. Both are the four arrays of `Proof/Spec.lean`: `KernelArray.lean` for the kernel, `RefArray.lean` for
  the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.RefArray
public import Idealize.ShloMosaic.Adequacy
public import Idealize.ShloMosaic.Init

@[expose] public section

noncomputable section

namespace Cert.Proof

open Idealize.ShloMosaic Idealize.ShloMosaic.TcCoe Idealize.SL.Sem Cert.Gating

/-- The reference runs, keeps its arguments and leaves every semaphore at zero. -/
theorem reference_quiescent : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The kernel's run over the extended reals, its four results the arrays of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v6_0) = probsArray (argX m c) (argW m c) (argG m c)
        ∧ r.2.mem ((c.tc : Thread Cert.KernelIdeal.nD Cert.KernelIdeal.τ).loc Cert.KernelIdeal.main_v6_1) = logitsArray (argX m c) (argW m c) (argG m c)
        ∧ r.2.mem ((c.tc : Thread Cert.KernelIdeal.nD Cert.KernelIdeal.τ).loc Cert.KernelIdeal.main_v6_2) = maskArray (argX m c) (argW m c) (argG m c)
        ∧ r.2.mem ((c.tc : Thread Cert.KernelIdeal.nD Cert.KernelIdeal.τ).loc Cert.KernelIdeal.main_v6_3) = gatedArray (argX m c) (argW m c) (argG m c)
        ∧ r.2.mem ((c.tc : Thread Cert.KernelIdeal.nD Cert.KernelIdeal.τ).loc Cert.KernelIdeal.main_arg0) = argX m c
        ∧ r.2.mem ((c.tc : Thread Cert.KernelIdeal.nD Cert.KernelIdeal.τ).loc Cert.KernelIdeal.main_arg1) = argW m c
        ∧ r.2.mem ((c.tc : Thread Cert.KernelIdeal.nD Cert.KernelIdeal.τ).loc Cert.KernelIdeal.main_arg2) = argG m c :=
  (θ_run _ _ _).mono (fun _ h c => ⟨(h c).1.trans (array4 m c), (h c).2.1.trans (array5 m c), (h c).2.2.1.trans (array6 m c),
    (h c).2.2.2.1.trans (array7 m c), (h c).2.2.2.2⟩) (Cert.KernelIdeal.Value.run_blocks (F := Ideal) m ρ)

/-- The reference's tokens as launched. -/
abbrev refX (m : (ℓ : Loc Cert.ReferenceIdeal.nD Cert.ReferenceIdeal.τ Cert.ReferenceIdeal.sig) → Buf (Elt Ideal) ℓ) (c : Dev Cert.ReferenceIdeal.nD) :
    XShape.Idx → EReal := m ((c.tc : Thread Cert.ReferenceIdeal.nD Cert.ReferenceIdeal.τ).loc Cert.ReferenceIdeal.main_arg0)
/-- The reference's experts' columns as launched. -/
abbrev refW (m : (ℓ : Loc Cert.ReferenceIdeal.nD Cert.ReferenceIdeal.τ Cert.ReferenceIdeal.sig) → Buf (Elt Ideal) ℓ) (c : Dev Cert.ReferenceIdeal.nD) :
    WShape.Idx → EReal := m ((c.tc : Thread Cert.ReferenceIdeal.nD Cert.ReferenceIdeal.τ).loc Cert.ReferenceIdeal.main_arg1)
/-- The reference's thresholds as launched. -/
abbrev refG (m : (ℓ : Loc Cert.ReferenceIdeal.nD Cert.ReferenceIdeal.τ Cert.ReferenceIdeal.sig) → Buf (Elt Ideal) ℓ) (c : Dev Cert.ReferenceIdeal.nD) :
    GShape.Idx → EReal := m ((c.tc : Thread Cert.ReferenceIdeal.nD Cert.ReferenceIdeal.τ).loc Cert.ReferenceIdeal.main_arg2)

/-- The reference's run over the extended reals, its four results the arrays of its arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v66) = probsArray (refX m c) (refW m c) (refG m c)
        ∧ r.2.mem ((c.tc : Thread Cert.ReferenceIdeal.nD Cert.ReferenceIdeal.τ).loc Cert.ReferenceIdeal.main_v20) = logitsArray (refX m c) (refW m c) (refG m c)
        ∧ r.2.mem ((c.tc : Thread Cert.ReferenceIdeal.nD Cert.ReferenceIdeal.τ).loc Cert.ReferenceIdeal.main_v52) = maskArray (refX m c) (refW m c) (refG m c)
        ∧ r.2.mem ((c.tc : Thread Cert.ReferenceIdeal.nD Cert.ReferenceIdeal.τ).loc Cert.ReferenceIdeal.main_v21) = gatedArray (refX m c) (refW m c) (refG m c)
        ∧ r.2.mem ((c.tc : Thread Cert.ReferenceIdeal.nD Cert.ReferenceIdeal.τ).loc Cert.ReferenceIdeal.main_arg0) = refX m c
        ∧ r.2.mem ((c.tc : Thread Cert.ReferenceIdeal.nD Cert.ReferenceIdeal.τ).loc Cert.ReferenceIdeal.main_arg1) = refW m c
        ∧ r.2.mem ((c.tc : Thread Cert.ReferenceIdeal.nD Cert.ReferenceIdeal.τ).loc Cert.ReferenceIdeal.main_arg2) = refG m c :=
  (θ_run _ _ _).mono (fun _ h c => ⟨
    (h c).1.trans ((Cert.ReferenceIdeal.Read.val_main_v66_eq m c).trans (ref_probsArray (refX m c) (refW m c) (refG m c))),
    (h c).2.1.trans ((Cert.ReferenceIdeal.Read.val_main_v20_eq _ _ _).trans (ref_logitsArray (refX m c) (refW m c) (refG m c))),
    (h c).2.2.1.trans ((Cert.ReferenceIdeal.Read.val_main_v52_eq m c).trans (ref_maskArray (refX m c) (refW m c) (refG m c))),
    (h c).2.2.2.1.trans ((Cert.ReferenceIdeal.Read.val_main_v21_eq _ _ _).trans (ref_gatedArray (refX m c) (refW m c) (refG m c))),
    (h c).2.2.2.2⟩) (Cert.ReferenceIdeal.Value.run (F := Ideal) m ρ)

/-- From arguments that agree, the kernel's four results and the reference's are the same arrays. -/
theorem results_agree : Cert.algebraic_KernelIdeal_ReferenceIdeal (hKernelIdeal := Cert.KernelIdeal.Gen.facts)
    (hReferenceIdeal := Cert.ReferenceIdeal.Gen.facts) := by
  intro m ρ m' ρ' _ hagree
  have hx : ∀ c, refX m' c = argX m c := fun c => (hagree c).1
  have hw : ∀ c, refW m' c = argW m c := fun c => (hagree c).2.1
  have hg : ∀ c, refG m' c = argG m c := fun c => (hagree c).2.2
  refine ⟨fun c => probsArray (argX m c) (argW m c) (argG m c), fun c => logitsArray (argX m c) (argW m c) (argG m c),
    fun c => maskArray (argX m c) (argW m c) (argG m c), fun c => gatedArray (argX m c) (argW m c) (argG m c),
    kernel_run m ρ, ?_⟩
  refine (θ_run _ _ _).mono (fun _ h c => ?_) (reference_run m' ρ')
  obtain ⟨h0, h1, h2, h3, hk⟩ := h c
  rw [hx c, hw c, hg c] at h0 h1 h2 h3
  exact ⟨h0, h1, h2, h3, hk⟩

/-- Every claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent, trivial, results_agree⟩

end Cert.Proof

end
